-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v83_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v64) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x15360 : Shape := ⟨2, ![32768, 15360]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S32768x2048 : Shape := ⟨2, ![32768, 2048]⟩
abbrev S16x8x128x256 : Shape := ⟨4, ![16, 8, 128, 256]⟩
abbrev S128x1024 : Shape := ⟨2, ![128, 1024]⟩
abbrev S128x2048 : Shape := ⟨2, ![128, 2048]⟩
abbrev S1x8x128x256 : Shape := ⟨4, ![1, 8, 128, 256]⟩
abbrev S8x128x256 : Shape := ⟨3, ![8, 128, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 80
  | .vmem => 20
  | .smem => 1
  | _ => 0

abbrev bufTy : (tb : Table) → Fin (tcTables nBuf tb) → BufTy
  | .hbm, ⟨0, _⟩ => ⟨S32768x15360, .bf16⟩
  | .hbm, ⟨1, _⟩ => ⟨S2048, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048x1, .f32⟩
  | .hbm, ⟨11, _⟩ => ⟨S1x64, .f32⟩
  | .hbm, ⟨12, _⟩ => ⟨S2048x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x128, .f32⟩
  | .hbm, ⟨18, _⟩ => ⟨S2048x64, .f32⟩
  | .hbm, ⟨19, _⟩ => ⟨S2048x128, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S128, .f32⟩
  | .hbm, ⟨30, _⟩ => ⟨S128x1, .f32⟩
  | .hbm, ⟨31, _⟩ => ⟨S1x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .i1⟩
  | .hbm, ⟨38, _⟩ => ⟨S8x1x1, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S8x128x128, .f32⟩
  | .hbm, ⟨44, _⟩ => ⟨S8x128x128, .f32⟩
  | .hbm, ⟨45, _⟩ => ⟨S8x128x128, .f32⟩
  | .hbm, ⟨46, _⟩ => ⟨S8x128x128, .f32⟩
  | .hbm, ⟨47, _⟩ => ⟨S_, .f32⟩
  | .hbm, ⟨48, _⟩ => ⟨S_, .f32⟩
  | .hbm, ⟨49, _⟩ => ⟨S8x128x128, .i1⟩
  | .hbm, ⟨50, _⟩ => ⟨S8x128x128, .f32⟩
  | .hbm, ⟨51, _⟩ => ⟨S8x128x128, .f32⟩
  | .hbm, ⟨52, _⟩ => ⟨S8x1, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S8x128, .f32⟩
  | .hbm, ⟨58, _⟩ => ⟨S8x128, .f32⟩
  | .hbm, ⟨59, _⟩ => ⟨S8x128, .f32⟩
  | .hbm, ⟨60, _⟩ => ⟨S8x128, .f32⟩
  | .hbm, ⟨61, _⟩ => ⟨S8x1, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S8x128, .f32⟩
  | .hbm, ⟨67, _⟩ => ⟨S8x128, .f32⟩
  | .hbm, ⟨68, _⟩ => ⟨S8x128, .f32⟩
  | .hbm, ⟨69, _⟩ => ⟨S8x128, .f32⟩
  | .hbm, ⟨70, _⟩ => ⟨S8x128x1, .f32⟩
  | .hbm, ⟨71, _⟩ => ⟨S8x128x128, .f32⟩
  | .hbm, ⟨72, _⟩ => ⟨S8x128x1, .f32⟩
  | .hbm, ⟨73, _⟩ => ⟨S8x128x128, .f32⟩
  | .hbm, ⟨74, _⟩ => ⟨S_, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S32768x2048, .bf16⟩
  | .hbm, ⟨79, _⟩ => ⟨S16x8x128x256, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S128x2048, .bf16⟩
  | .local _ .vmem, ⟨16, _⟩ => ⟨S128x2048, .bf16⟩
  | .local _ .vmem, ⟨17, _⟩ => ⟨S1x8x128x256, .f32⟩
  | .local _ .vmem, ⟨18, _⟩ => ⟨S1x8x128x256, .f32⟩
  | .local _ .vmem, ⟨19, _⟩ => ⟨S8x128x256, .f32⟩
  | .local _ .smem, ⟨0, _⟩ => ⟨S8, .f32⟩
  | _, _ => ⟨S32768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_4 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64_0 : Ref sig .tc := ⟨.hbm, 78, rfl⟩
abbrev main_v64_1 : Ref sig .tc := ⟨.hbm, 79, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v543 : BitVec 1 := Scalar.cmpi .eq arg1 c15_i32
  let v544 : BitVec 32 := Scalar.extui v543
  let c0_i32_288 : BitVec 32 := 0#32
  let v545 : BitVec 1 := Scalar.cmpi .ne v544 c0_i32_288
  v545

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S32768x15360 : Shape := ⟨2, ![32768, 15360]⟩
abbrev S2048 : Shape := ⟨1, ![2048]⟩
abbrev S32768x1024 : Shape := ⟨2, ![32768, 1024]⟩
abbrev S32768x2048 : Shape := ⟨2, ![32768, 2048]⟩
abbrev S_ : Shape := ⟨0, ![]⟩
abbrev S16x8x128x256 : Shape := ⟨4, ![16, 8, 128, 256]⟩
abbrev S8 : Shape := ⟨1, ![8]⟩
abbrev S16x2048x8x128 : Shape := ⟨4, ![16, 2048, 8, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x8x64 : Shape := ⟨4, ![16, 2048, 8, 64]⟩
abbrev S16x2048x8x256 : Shape := ⟨4, ![16, 2048, 8, 256]⟩
abbrev S16x16x128x8x128 : Shape := ⟨5, ![16, 16, 128, 8, 128]⟩
abbrev S16x16x128x8x256 : Shape := ⟨5, ![16, 16, 128, 8, 256]⟩
abbrev S1x16x128x8x128 : Shape := ⟨5, ![1, 16, 128, 8, 128]⟩
abbrev S16x128x8x128 : Shape := ⟨4, ![16, 128, 8, 128]⟩
abbrev S1x16x128x8x256 : Shape := ⟨5, ![1, 16, 128, 8, 256]⟩
abbrev S16x128x8x256 : Shape := ⟨4, ![16, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S16x8x128x128 : Shape := ⟨4, ![16, 8, 128, 128]⟩
abbrev S1x8x128x128 : Shape := ⟨4, ![1, 8, 128, 128]⟩
abbrev S16x8x256x128 : Shape := ⟨4, ![16, 8, 256, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S16 : Shape := ⟨1, ![16]⟩
abbrev S16x1x1x1x1 : Shape := ⟨5, ![16, 1, 1, 1, 1]⟩
abbrev S16x2048x8 : Shape := ⟨3, ![16, 2048, 8]⟩
abbrev S16x2048x8x1 : Shape := ⟨4, ![16, 2048, 8, 1]⟩

abbrev nBuf : Space → Nat
  | .hbm => 257
  | .vmem => 0
  | .smem => 0
  | _ => 0

abbrev hbmTy0_0 (i : Nat) : BufTy := match i % 128 with
  | 0 => ⟨S32768x15360, .bf16⟩
  | 1 => ⟨S2048, .f32⟩
  | 2 => ⟨S32768x1024, .bf16⟩
  | 3 => ⟨S32768x1024, .f32⟩
  | 4 => ⟨S32768x1024, .bf16⟩
  | 5 => ⟨S32768x1024, .f32⟩
  | 6 => ⟨S32768x2048, .bf16⟩
  | 7 => ⟨S32768x2048, .f32⟩
  | 8 => ⟨S_, .f32⟩
  | 9 => ⟨S16x8x128x256, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S8, .f32⟩
  | 19 => ⟨S16x2048x8x128, .f32⟩
  | 20 => ⟨S64, .f32⟩
  | 21 => ⟨S64, .f32⟩
  | 22 => ⟨S_, .f32⟩
  | 23 => ⟨S64, .f32⟩
  | 24 => ⟨S64, .f32⟩
  | 25 => ⟨S_, .f32⟩
  | 26 => ⟨S64, .f32⟩
  | 27 => ⟨S64, .f32⟩
  | 28 => ⟨S2048x1, .f32⟩
  | 29 => ⟨S1x64, .f32⟩
  | 30 => ⟨S2048x64, .f32⟩
  | 31 => ⟨S2048x64, .f32⟩
  | 32 => ⟨S2048x64, .f32⟩
  | 33 => ⟨S2048x64, .f32⟩
  | 34 => ⟨S1x2048x1x64, .f32⟩
  | 35 => ⟨S2048x64, .f32⟩
  | 36 => ⟨S1x2048x1x64, .f32⟩
  | 37 => ⟨S16x2048x8x64, .f32⟩
  | 38 => ⟨S16x2048x8x64, .f32⟩
  | 39 => ⟨S16x2048x8x64, .f32⟩
  | 40 => ⟨S16x2048x8x64, .f32⟩
  | 41 => ⟨S16x2048x8x64, .f32⟩
  | 42 => ⟨S16x2048x8x64, .f32⟩
  | 43 => ⟨S16x2048x8x64, .f32⟩
  | 44 => ⟨S16x2048x8x64, .f32⟩
  | 45 => ⟨S16x2048x8x64, .f32⟩
  | 46 => ⟨S16x2048x8x64, .f32⟩
  | 47 => ⟨S16x2048x8x64, .f32⟩
  | 48 => ⟨S16x2048x8x64, .f32⟩
  | 49 => ⟨S16x2048x8x128, .f32⟩
  | 50 => ⟨S16x2048x8x128, .f32⟩
  | 51 => ⟨S64, .f32⟩
  | 52 => ⟨S64, .f32⟩
  | 53 => ⟨S_, .f32⟩
  | 54 => ⟨S64, .f32⟩
  | 55 => ⟨S64, .f32⟩
  | 56 => ⟨S_, .f32⟩
  | 57 => ⟨S64, .f32⟩
  | 58 => ⟨S64, .f32⟩
  | 59 => ⟨S2048x1, .f32⟩
  | 60 => ⟨S1x64, .f32⟩
  | 61 => ⟨S2048x64, .f32⟩
  | 62 => ⟨S2048x64, .f32⟩
  | 63 => ⟨S2048x64, .f32⟩
  | 64 => ⟨S2048x64, .f32⟩
  | 65 => ⟨S1x2048x1x64, .f32⟩
  | 66 => ⟨S2048x64, .f32⟩
  | 67 => ⟨S1x2048x1x64, .f32⟩
  | 68 => ⟨S16x2048x8x64, .f32⟩
  | 69 => ⟨S16x2048x8x64, .f32⟩
  | 70 => ⟨S16x2048x8x64, .f32⟩
  | 71 => ⟨S16x2048x8x64, .f32⟩
  | 72 => ⟨S16x2048x8x64, .f32⟩
  | 73 => ⟨S16x2048x8x64, .f32⟩
  | 74 => ⟨S16x2048x8x64, .f32⟩
  | 75 => ⟨S16x2048x8x64, .f32⟩
  | 76 => ⟨S16x2048x8x64, .f32⟩
  | 77 => ⟨S16x2048x8x64, .f32⟩
  | 78 => ⟨S16x2048x8x64, .f32⟩
  | 79 => ⟨S16x2048x8x64, .f32⟩
  | 80 => ⟨S16x2048x8x128, .f32⟩
  | 81 => ⟨S_, .f32⟩
  | 82 => ⟨S16x2048x8x128, .f32⟩
  | 83 => ⟨S16x2048x8x128, .f32⟩
  | 84 => ⟨S16x2048x8x256, .f32⟩
  | 85 => ⟨S16x16x128x8x128, .f32⟩
  | 86 => ⟨S16x16x128x8x128, .f32⟩
  | 87 => ⟨S16x16x128x8x128, .f32⟩
  | 88 => ⟨S16x16x128x8x128, .f32⟩
  | 89 => ⟨S16x16x128x8x256, .f32⟩
  | 90 => ⟨S16x16x128x8x256, .f32⟩
  | 91 => ⟨S_, .f32⟩
  | 92 => ⟨S16x16x128x8x256, .f32⟩
  | 93 => ⟨S_, .i32⟩
  | 94 => ⟨S_, .i32⟩
  | 95 => ⟨S16x16x128x8x128, .f32⟩
  | 96 => ⟨S16x16x128x8x128, .f32⟩
  | 97 => ⟨S16x16x128x8x256, .f32⟩
  | 98 => ⟨S8, .f32⟩
  | 99 => ⟨S_, .i32⟩
  | 100 => ⟨S_, .i32⟩
  | 101 => ⟨S16x8x128x256, .f32⟩
  | 102 => ⟨S16x16x128x8x256, .f32⟩
  | 103 => ⟨S_, .i32⟩
  | 104 => ⟨S_, .i1⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S1x16x128x8x128, .f32⟩
  | 118 => ⟨S16x128x8x128, .f32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S32768x15360, .bf16⟩

abbrev hbmTy0_1 (i : Nat) : BufTy := match i % 128 with
  | 0 => ⟨S_, .i32⟩
  | 1 => ⟨S1x16x128x8x128, .f32⟩
  | 2 => ⟨S16x128x8x128, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x16x128x8x256, .f32⟩
  | 14 => ⟨S16x128x8x256, .f32⟩
  | 15 => ⟨S128, .f32⟩
  | 16 => ⟨S128x1, .f32⟩
  | 17 => ⟨S1x128, .f32⟩
  | 18 => ⟨S128x128, .f32⟩
  | 19 => ⟨S128x128, .f32⟩
  | 20 => ⟨S128x128, .f32⟩
  | 21 => ⟨S_, .f32⟩
  | 22 => ⟨S128x128, .f32⟩
  | 23 => ⟨S128x128, .i1⟩
  | 24 => ⟨S8x1x1, .f32⟩
  | 25 => ⟨S_, .f32⟩
  | 26 => ⟨S128x128, .f32⟩
  | 27 => ⟨S128x128, .f32⟩
  | 28 => ⟨S1x128x128, .f32⟩
  | 29 => ⟨S8x128x128, .f32⟩
  | 30 => ⟨S8x128x128, .f32⟩
  | 31 => ⟨S8x128x128, .f32⟩
  | 32 => ⟨S8x128x128, .f32⟩
  | 33 => ⟨S_, .f32⟩
  | 34 => ⟨S_, .f32⟩
  | 35 => ⟨S8x128x128, .i1⟩
  | 36 => ⟨S8x128x128, .f32⟩
  | 37 => ⟨S8x128x128, .f32⟩
  | 38 => ⟨S16x8x128x128, .f32⟩
  | 39 => ⟨S1x8x128x128, .f32⟩
  | 40 => ⟨S16x8x128x128, .f32⟩
  | 41 => ⟨S16x8x128x128, .f32⟩
  | 42 => ⟨S16x8x256x128, .f32⟩
  | 43 => ⟨S16x128x8x256, .f32⟩
  | 44 => ⟨S1x8, .f32⟩
  | 45 => ⟨S128x1, .f32⟩
  | 46 => ⟨S_, .f32⟩
  | 47 => ⟨S128x1, .f32⟩
  | 48 => ⟨S128x1, .f32⟩
  | 49 => ⟨S128x8, .f32⟩
  | 50 => ⟨S128x8, .f32⟩
  | 51 => ⟨S128x8, .f32⟩
  | 52 => ⟨S128x8, .f32⟩
  | 53 => ⟨S16x8x256x128, .f32⟩
  | 54 => ⟨S16x128x8x256, .f32⟩
  | 55 => ⟨S1x128x8x1, .f32⟩
  | 56 => ⟨S16x128x8x256, .f32⟩
  | 57 => ⟨S16x128x8x256, .f32⟩
  | 58 => ⟨S16x128x8x256, .f32⟩
  | 59 => ⟨S1x8, .f32⟩
  | 60 => ⟨S128x1, .f32⟩
  | 61 => ⟨S_, .f32⟩
  | 62 => ⟨S128x1, .f32⟩
  | 63 => ⟨S128x1, .f32⟩
  | 64 => ⟨S128x8, .f32⟩
  | 65 => ⟨S128x8, .f32⟩
  | 66 => ⟨S128x8, .f32⟩
  | 67 => ⟨S128x8, .f32⟩
  | 68 => ⟨S_, .f32⟩
  | 69 => ⟨S8, .f32⟩
  | 70 => ⟨S8, .f32⟩
  | 71 => ⟨S8, .f32⟩
  | 72 => ⟨S1x8x1x1, .f32⟩
  | 73 => ⟨S16x8x128x256, .f32⟩
  | 74 => ⟨S16x8x128x256, .f32⟩
  | 75 => ⟨S1x128x8x1, .f32⟩
  | 76 => ⟨S16x128x8x128, .f32⟩
  | 77 => ⟨S16x128x8x128, .f32⟩
  | 78 => ⟨S16x8x128x256, .f32⟩
  | 79 => ⟨S16x8x128x256, .f32⟩
  | 80 => ⟨S16, .i32⟩
  | 81 => ⟨S_, .i32⟩
  | 82 => ⟨S16, .i32⟩
  | 83 => ⟨S16, .i1⟩
  | 84 => ⟨S16x1x1x1x1, .i1⟩
  | 85 => ⟨S16x16x128x8x256, .i1⟩
  | 86 => ⟨S16x16x128x8x256, .f32⟩
  | 87 => ⟨S16x16x128x8x256, .f32⟩
  | 88 => ⟨S_, .i32⟩
  | 89 => ⟨S_, .i32⟩
  | 90 => ⟨S16x16x128x8x256, .f32⟩
  | 91 => ⟨S16x2048x8x256, .f32⟩
  | 92 => ⟨S_, .f32⟩
  | 93 => ⟨S16x2048x8, .f32⟩
  | 94 => ⟨S16x2048x8x1, .f32⟩
  | 95 => ⟨S_, .f32⟩
  | 96 => ⟨S16x2048x8x1, .f32⟩
  | 97 => ⟨S16x2048x8x1, .f32⟩
  | 98 => ⟨S16x2048x8x256, .f32⟩
  | 99 => ⟨S16x2048x8x256, .f32⟩
  | 100 => ⟨S16x2048x8x256, .f32⟩
  | 101 => ⟨S_, .f32⟩
  | 102 => ⟨S16x2048x8, .f32⟩
  | 103 => ⟨S16x2048x8x1, .f32⟩
  | 104 => ⟨S_, .f32⟩
  | 105 => ⟨S16x2048x8x1, .f32⟩
  | 106 => ⟨S16x2048x8x1, .f32⟩
  | 107 => ⟨S16x2048x8x256, .f32⟩
  | 108 => ⟨S16x2048x8x256, .f32⟩
  | 109 => ⟨S_, .f32⟩
  | 110 => ⟨S16x2048x8x1, .f32⟩
  | 111 => ⟨S16x2048x8x1, .f32⟩
  | 112 => ⟨S16x2048x8x1, .f32⟩
  | 113 => ⟨S16x2048x8x256, .f32⟩
  | 114 => ⟨S16x2048x8x256, .f32⟩
  | 115 => ⟨S32768x2048, .f32⟩
  | 116 => ⟨S32768x2048, .bf16⟩
  | 117 => ⟨S32768x2048, .f32⟩
  | 118 => ⟨S32768x2048, .f32⟩
  | 119 => ⟨S32768x2048, .f32⟩
  | 120 => ⟨S_, .f32⟩
  | 121 => ⟨S32768x2048, .f32⟩
  | 122 => ⟨S32768x2048, .f32⟩
  | 123 => ⟨S_, .f32⟩
  | 124 => ⟨S32768x2048, .f32⟩
  | 125 => ⟨S32768x2048, .f32⟩
  | 126 => ⟨S32768x2048, .f32⟩
  | 127 => ⟨S32768x2048, .f32⟩
  | _ => ⟨S32768x15360, .bf16⟩

abbrev hbmTy0_2 (i : Nat) : BufTy := match i % 128 with
  | 0 => ⟨S32768x2048, .bf16⟩
  | _ => ⟨S32768x15360, .bf16⟩

abbrev hbmTy (i : Nat) : BufTy := match i / 128 with
  | 0 => hbmTy0_0 i
  | 1 => hbmTy0_1 i
  | 2 => hbmTy0_2 i
  | _ => ⟨S32768x15360, .bf16⟩

abbrev bufTy : (tb : Table) → Fin (tcTables nBuf tb) → BufTy
  | .hbm, ⟨i, _⟩ => hbmTy i
  | _, _ => ⟨S32768x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_4 : Ref sig .tc := ⟨.hbm, 53, rfl⟩
abbrev main_v47 : Ref sig .tc := ⟨.hbm, 54, rfl⟩
abbrev main_v48 : Ref sig .tc := ⟨.hbm, 55, rfl⟩
abbrev main_cst_5 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_6 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_cst_7 : Ref sig .tc := ⟨.hbm, 91, rfl⟩
abbrev main_v82 : Ref sig .tc := ⟨.hbm, 92, rfl⟩
abbrev main_c : Ref sig .tc := ⟨.hbm, 93, rfl⟩
abbrev main_c_8 : Ref sig .tc := ⟨.hbm, 94, rfl⟩
abbrev main_v83_0 : Ref sig .tc := ⟨.hbm, 95, rfl⟩
abbrev main_v83_1 : Ref sig .tc := ⟨.hbm, 96, rfl⟩
abbrev main_v83_2 : Ref sig .tc := ⟨.hbm, 97, rfl⟩
abbrev main_v83_3 : Ref sig .tc := ⟨.hbm, 98, rfl⟩
abbrev main_v83_4 : Ref sig .tc := ⟨.hbm, 99, rfl⟩
abbrev main_v83_5 : Ref sig .tc := ⟨.hbm, 100, rfl⟩
abbrev main_v83_6 : Ref sig .tc := ⟨.hbm, 101, rfl⟩
abbrev main_v83_7 : Ref sig .tc := ⟨.hbm, 102, rfl⟩
abbrev main_while0c_c_21 : Ref sig .tc := ⟨.hbm, 103, rfl⟩
abbrev main_while0c_v110 : Ref sig .tc := ⟨.hbm, 104, rfl⟩
abbrev main_while0b_c_21 : Ref sig .tc := ⟨.hbm, 105, rfl⟩
abbrev main_while0b_v110 : Ref sig .tc := ⟨.hbm, 106, rfl⟩
abbrev main_while0b_call0_c : Ref sig .tc := ⟨.hbm, 107, rfl⟩
abbrev main_while0b_call0_v0 : Ref sig .tc := ⟨.hbm, 108, rfl⟩
abbrev main_while0b_call0_v1 : Ref sig .tc := ⟨.hbm, 109, rfl⟩
abbrev main_while0b_call0_c_0 : Ref sig .tc := ⟨.hbm, 110, rfl⟩
abbrev main_while0b_call0_v2 : Ref sig .tc := ⟨.hbm, 111, rfl⟩
abbrev main_while0b_call0_v3 : Ref sig .tc := ⟨.hbm, 112, rfl⟩
abbrev main_while0b_call0_c_1 : Ref sig .tc := ⟨.hbm, 113, rfl⟩
abbrev main_while0b_call0_c_2 : Ref sig .tc := ⟨.hbm, 114, rfl⟩
abbrev main_while0b_call0_c_3 : Ref sig .tc := ⟨.hbm, 115, rfl⟩
abbrev main_while0b_call0_c_4 : Ref sig .tc := ⟨.hbm, 116, rfl⟩
abbrev main_while0b_call0_v4 : Ref sig .tc := ⟨.hbm, 117, rfl⟩
abbrev main_while0b_v111 : Ref sig .tc := ⟨.hbm, 118, rfl⟩
abbrev main_while0b_call1_c : Ref sig .tc := ⟨.hbm, 119, rfl⟩
abbrev main_while0b_call1_v0 : Ref sig .tc := ⟨.hbm, 120, rfl⟩
abbrev main_while0b_call1_v1 : Ref sig .tc := ⟨.hbm, 121, rfl⟩
abbrev main_while0b_call1_c_0 : Ref sig .tc := ⟨.hbm, 122, rfl⟩
abbrev main_while0b_call1_v2 : Ref sig .tc := ⟨.hbm, 123, rfl⟩
abbrev main_while0b_call1_v3 : Ref sig .tc := ⟨.hbm, 124, rfl⟩
abbrev main_while0b_call1_c_1 : Ref sig .tc := ⟨.hbm, 125, rfl⟩
abbrev main_while0b_call1_c_2 : Ref sig .tc := ⟨.hbm, 126, rfl⟩
abbrev main_while0b_call1_c_3 : Ref sig .tc := ⟨.hbm, 127, rfl⟩
abbrev main_while0b_call1_c_4 : Ref sig .tc := ⟨.hbm, 128, rfl⟩
abbrev main_while0b_call1_v4 : Ref sig .tc := ⟨.hbm, 129, rfl⟩
abbrev main_while0b_v112 : Ref sig .tc := ⟨.hbm, 130, rfl⟩
abbrev main_while0b_call2_c : Ref sig .tc := ⟨.hbm, 131, rfl⟩
abbrev main_while0b_call2_v0 : Ref sig .tc := ⟨.hbm, 132, rfl⟩
abbrev main_while0b_call2_v1 : Ref sig .tc := ⟨.hbm, 133, rfl⟩
abbrev main_while0b_call2_c_0 : Ref sig .tc := ⟨.hbm, 134, rfl⟩
abbrev main_while0b_call2_v2 : Ref sig .tc := ⟨.hbm, 135, rfl⟩
abbrev main_while0b_call2_v3 : Ref sig .tc := ⟨.hbm, 136, rfl⟩
abbrev main_while0b_call2_c_1 : Ref sig .tc := ⟨.hbm, 137, rfl⟩
abbrev main_while0b_call2_c_2 : Ref sig .tc := ⟨.hbm, 138, rfl⟩
abbrev main_while0b_call2_c_3 : Ref sig .tc := ⟨.hbm, 139, rfl⟩
abbrev main_while0b_call2_c_4 : Ref sig .tc := ⟨.hbm, 140, rfl⟩
abbrev main_while0b_call2_v4 : Ref sig .tc := ⟨.hbm, 141, rfl⟩
abbrev main_while0b_v113 : Ref sig .tc := ⟨.hbm, 142, rfl⟩
abbrev main_while0b_v114 : Ref sig .tc := ⟨.hbm, 143, rfl⟩
abbrev main_while0b_v115 : Ref sig .tc := ⟨.hbm, 144, rfl⟩
abbrev main_while0b_v116 : Ref sig .tc := ⟨.hbm, 145, rfl⟩
abbrev main_while0b_v117 : Ref sig .tc := ⟨.hbm, 146, rfl⟩
abbrev main_while0b_v118 : Ref sig .tc := ⟨.hbm, 147, rfl⟩
abbrev main_while0b_v119 : Ref sig .tc := ⟨.hbm, 148, rfl⟩
abbrev main_while0b_cst_22 : Ref sig .tc := ⟨.hbm, 149, rfl⟩
abbrev main_while0b_v120 : Ref sig .tc := ⟨.hbm, 150, rfl⟩
abbrev main_while0b_v121 : Ref sig .tc := ⟨.hbm, 151, rfl⟩
abbrev main_while0b_v122 : Ref sig .tc := ⟨.hbm, 152, rfl⟩
abbrev main_while0b_cst_23 : Ref sig .tc := ⟨.hbm, 153, rfl⟩
abbrev main_while0b_v123 : Ref sig .tc := ⟨.hbm, 154, rfl⟩
abbrev main_while0b_v124 : Ref sig .tc := ⟨.hbm, 155, rfl⟩
abbrev main_while0b_v125 : Ref sig .tc := ⟨.hbm, 156, rfl⟩
abbrev main_while0b_v126 : Ref sig .tc := ⟨.hbm, 157, rfl⟩
abbrev main_while0b_v127 : Ref sig .tc := ⟨.hbm, 158, rfl⟩
abbrev main_while0b_v128 : Ref sig .tc := ⟨.hbm, 159, rfl⟩
abbrev main_while0b_v129 : Ref sig .tc := ⟨.hbm, 160, rfl⟩
abbrev main_while0b_cst_24 : Ref sig .tc := ⟨.hbm, 161, rfl⟩
abbrev main_while0b_call3_v0 : Ref sig .tc := ⟨.hbm, 162, rfl⟩
abbrev main_while0b_call3_v1 : Ref sig .tc := ⟨.hbm, 163, rfl⟩
abbrev main_while0b_call3_v2 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_v137 : Ref sig .tc := ⟨.hbm, 172, rfl⟩
abbrev main_while0b_v138 : Ref sig .tc := ⟨.hbm, 173, rfl⟩
abbrev main_while0b_cst_25 : Ref sig .tc := ⟨.hbm, 174, rfl⟩
abbrev main_while0b_v139 : Ref sig .tc := ⟨.hbm, 175, rfl⟩
abbrev main_while0b_v140 : Ref sig .tc := ⟨.hbm, 176, rfl⟩
abbrev main_while0b_v141 : Ref sig .tc := ⟨.hbm, 177, rfl⟩
abbrev main_while0b_v142 : Ref sig .tc := ⟨.hbm, 178, rfl⟩
abbrev main_while0b_v143 : Ref sig .tc := ⟨.hbm, 179, rfl⟩
abbrev main_while0b_v144 : Ref sig .tc := ⟨.hbm, 180, rfl⟩
abbrev main_while0b_v145 : Ref sig .tc := ⟨.hbm, 181, rfl⟩
abbrev main_while0b_v146 : Ref sig .tc := ⟨.hbm, 182, rfl⟩
abbrev main_while0b_v147 : Ref sig .tc := ⟨.hbm, 183, rfl⟩
abbrev main_while0b_v148 : Ref sig .tc := ⟨.hbm, 184, rfl⟩
abbrev main_while0b_v149 : Ref sig .tc := ⟨.hbm, 185, rfl⟩
abbrev main_while0b_v150 : Ref sig .tc := ⟨.hbm, 186, rfl⟩
abbrev main_while0b_v151 : Ref sig .tc := ⟨.hbm, 187, rfl⟩
abbrev main_while0b_v152 : Ref sig .tc := ⟨.hbm, 188, rfl⟩
abbrev main_while0b_cst_26 : Ref sig .tc := ⟨.hbm, 189, rfl⟩
abbrev main_while0b_v153 : Ref sig .tc := ⟨.hbm, 190, rfl⟩
abbrev main_while0b_v154 : Ref sig .tc := ⟨.hbm, 191, rfl⟩
abbrev main_while0b_v155 : Ref sig .tc := ⟨.hbm, 192, rfl⟩
abbrev main_while0b_v156 : Ref sig .tc := ⟨.hbm, 193, rfl⟩
abbrev main_while0b_v157 : Ref sig .tc := ⟨.hbm, 194, rfl⟩
abbrev main_while0b_v158 : Ref sig .tc := ⟨.hbm, 195, rfl⟩
abbrev main_while0b_cst_27 : Ref sig .tc := ⟨.hbm, 196, rfl⟩
abbrev main_while0b_v159 : Ref sig .tc := ⟨.hbm, 197, rfl⟩
abbrev main_while0b_v160 : Ref sig .tc := ⟨.hbm, 198, rfl⟩
abbrev main_while0b_v161 : Ref sig .tc := ⟨.hbm, 199, rfl⟩
abbrev main_while0b_v162 : Ref sig .tc := ⟨.hbm, 200, rfl⟩
abbrev main_while0b_v163 : Ref sig .tc := ⟨.hbm, 201, rfl⟩
abbrev main_while0b_v164 : Ref sig .tc := ⟨.hbm, 202, rfl⟩
abbrev main_while0b_v165 : Ref sig .tc := ⟨.hbm, 203, rfl⟩
abbrev main_while0b_v166 : Ref sig .tc := ⟨.hbm, 204, rfl⟩
abbrev main_while0b_v167 : Ref sig .tc := ⟨.hbm, 205, rfl⟩
abbrev main_while0b_v168 : Ref sig .tc := ⟨.hbm, 206, rfl⟩
abbrev main_while0b_v169 : Ref sig .tc := ⟨.hbm, 207, rfl⟩
abbrev main_while0b_v170 : Ref sig .tc := ⟨.hbm, 208, rfl⟩
abbrev main_while0b_v171 : Ref sig .tc := ⟨.hbm, 209, rfl⟩
abbrev main_while0b_v172 : Ref sig .tc := ⟨.hbm, 210, rfl⟩
abbrev main_while0b_v173 : Ref sig .tc := ⟨.hbm, 211, rfl⟩
abbrev main_while0b_v174 : Ref sig .tc := ⟨.hbm, 212, rfl⟩
abbrev main_while0b_call4_v0 : Ref sig .tc := ⟨.hbm, 213, rfl⟩
abbrev main_while0b_call4_v1 : Ref sig .tc := ⟨.hbm, 214, rfl⟩
abbrev main_while0b_v175 : Ref sig .tc := ⟨.hbm, 215, rfl⟩
abbrev main_while0b_c_28 : Ref sig .tc := ⟨.hbm, 216, rfl⟩
abbrev main_while0b_v176 : Ref sig .tc := ⟨.hbm, 217, rfl⟩
abbrev main_v84 : Ref sig .tc := ⟨.hbm, 218, rfl⟩
abbrev main_v85 : Ref sig .tc := ⟨.hbm, 219, rfl⟩
abbrev main_cst_9 : Ref sig .tc := ⟨.hbm, 220, rfl⟩
abbrev main_v86 : Ref sig .tc := ⟨.hbm, 221, rfl⟩
abbrev main_v87 : Ref sig .tc := ⟨.hbm, 222, rfl⟩
abbrev main_cst_10 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_v91 : Ref sig .tc := ⟨.hbm, 227, rfl⟩
abbrev main_v92 : Ref sig .tc := ⟨.hbm, 228, rfl⟩
abbrev main_cst_11 : Ref sig .tc := ⟨.hbm, 229, rfl⟩
abbrev main_v93 : Ref sig .tc := ⟨.hbm, 230, rfl⟩
abbrev main_v94 : Ref sig .tc := ⟨.hbm, 231, rfl⟩
abbrev main_cst_12 : Ref sig .tc := ⟨.hbm, 232, rfl⟩
abbrev main_v95 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_cst_13 : Ref sig .tc := ⟨.hbm, 237, rfl⟩
abbrev main_v99 : Ref sig .tc := ⟨.hbm, 238, rfl⟩
abbrev main_v100 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_v104 : Ref sig .tc := ⟨.hbm, 243, rfl⟩
abbrev main_v105 : Ref sig .tc := ⟨.hbm, 244, rfl⟩
abbrev main_v106 : Ref sig .tc := ⟨.hbm, 245, rfl⟩
abbrev main_call5_v0 : Ref sig .tc := ⟨.hbm, 246, rfl⟩
abbrev main_call5_v1 : Ref sig .tc := ⟨.hbm, 247, rfl⟩
abbrev main_call5_cst : Ref sig .tc := ⟨.hbm, 248, rfl⟩
abbrev main_call5_v2 : Ref sig .tc := ⟨.hbm, 249, rfl⟩
abbrev main_call5_v3 : Ref sig .tc := ⟨.hbm, 250, rfl⟩
abbrev main_call5_cst_0 : Ref sig .tc := ⟨.hbm, 251, rfl⟩
abbrev main_call5_v4 : Ref sig .tc := ⟨.hbm, 252, rfl⟩
abbrev main_call5_v5 : Ref sig .tc := ⟨.hbm, 253, rfl⟩
abbrev main_v107 : Ref sig .tc := ⟨.hbm, 254, rfl⟩
abbrev main_v108 : Ref sig .tc := ⟨.hbm, 255, rfl⟩
abbrev main_v109 : Ref sig .tc := ⟨.hbm, 256, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16x2048x1024 : Shape := ⟨3, ![16, 2048, 1024]⟩
abbrev S1024 : Shape := ⟨1, ![1024]⟩
abbrev S2x1024x15360 : Shape := ⟨3, ![2, 1024, 15360]⟩
abbrev S2x16x16x64x2048 : Shape := ⟨5, ![2, 16, 16, 64, 2048]⟩
abbrev S32768x1024 : Shape := ⟨2, ![32768, 1024]⟩
abbrev S1x1024x15360 : Shape := ⟨3, ![1, 1024, 15360]⟩
abbrev S1024x15360 : Shape := ⟨2, ![1024, 15360]⟩
abbrev S1x1024 : Shape := ⟨2, ![1, 1024]⟩
abbrev S32768x15360 : Shape := ⟨2, ![32768, 15360]⟩
abbrev S1024x1024 : Shape := ⟨2, ![1024, 1024]⟩
abbrev S1x1x16x64x1024 : Shape := ⟨5, ![1, 1, 16, 64, 1024]⟩
abbrev S1024x1 : Shape := ⟨2, ![1024, 1]⟩
abbrev S16x64x1024 : Shape := ⟨3, ![16, 64, 1024]⟩

abbrev nBuf : Space → Nat
  | .hbm => 16
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S2x1024x15360, .f32⟩
  | .hbm, ⟨4, _⟩ => ⟨S2x16x16x64x2048, .f32⟩
  | .hbm, ⟨5, _⟩ => ⟨S2x16x16x64x2048, .f32⟩
  | .hbm, ⟨6, _⟩ => ⟨S32768x1024, .f32⟩
  | .hbm, ⟨7, _⟩ => ⟨S2x1024x15360, .bf16⟩
  | .hbm, ⟨8, _⟩ => ⟨S1x1024x15360, .bf16⟩
  | .hbm, ⟨9, _⟩ => ⟨S1024x15360, .bf16⟩
  | .hbm, ⟨10, _⟩ => ⟨S1x1024, .f32⟩
  | .hbm, ⟨11, _⟩ => ⟨S1x1024, .f32⟩
  | .hbm, ⟨12, _⟩ => ⟨S32768x15360, .bf16⟩
  | .hbm, ⟨13, _⟩ => ⟨S2x16x16x64x2048, .f32⟩
  | .hbm, ⟨14, _⟩ => ⟨S2x16x16x64x2048, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1x16x64x1024, .f32⟩
  | .local _ .vmem, ⟨9, _⟩ => ⟨S1x1x16x64x1024, .f32⟩
  | .local _ .vmem, ⟨10, _⟩ => ⟨S1x1x16x64x1024, .f32⟩
  | .local _ .vmem, ⟨11, _⟩ => ⟨S1x1x16x64x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 15], ![false, false]⟩

def k0_cond2 (i : grid0.Coords) : BitVec 1 :=
  let arg1 : BitVec 32 := BitVec.ofNat 32 (i 1).val
  let c9_i32 : BitVec 32 := 9#32
  let v9 : BitVec 1 := Scalar.cmpi .eq arg1 c9_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg1 : BitVec 32 := BitVec.ofNat 32 (i 1).val
  let c14_i32 : BitVec 32 := 14#32
  let v15 : BitVec 1 := Scalar.cmpi .eq arg1 c14_i32
  let v16 : BitVec 32 := Scalar.extui v15
  let c0_i32_8 : BitVec 32 := 0#32
  let v17 : BitVec 1 := Scalar.cmpi .ne v16 c0_i32_8
  v17

def k0_cond3 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_7 : BitVec 32 := 0#32
  let v14 : BitVec 1 := Scalar.cmpi .ne v13 c0_i32_7
  v14

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_8 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x16x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2048x1024 : Shape := ⟨3, ![16, 2048, 1024]⟩
abbrev S1024 : Shape := ⟨1, ![1024]⟩
abbrev S2x1024x15360 : Shape := ⟨3, ![2, 1024, 15360]⟩
abbrev S2x16x16x64x2048 : Shape := ⟨5, ![2, 16, 16, 64, 2048]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x15360 : Shape := ⟨3, ![1, 1024, 15360]⟩
abbrev S1024x15360 : Shape := ⟨2, ![1024, 15360]⟩
abbrev S32768x15360 : Shape := ⟨2, ![32768, 15360]⟩
abbrev S16x2048x16x64 : Shape := ⟨4, ![16, 2048, 16, 64]⟩
abbrev S16x16x64x2048 : Shape := ⟨4, ![16, 16, 64, 2048]⟩
abbrev S1x16x16x64x2048 : Shape := ⟨5, ![1, 16, 16, 64, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S2x1024x15360, .f32⟩
  | .hbm, ⟨4, _⟩ => ⟨S2x16x16x64x2048, .f32⟩
  | .hbm, ⟨5, _⟩ => ⟨S2x16x16x64x2048, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S1x1024, .f32⟩
  | .hbm, ⟨31, _⟩ => ⟨S32768x1024, .f32⟩
  | .hbm, ⟨32, _⟩ => ⟨S32768x1024, .f32⟩
  | .hbm, ⟨33, _⟩ => ⟨S1x1024, .f32⟩
  | .hbm, ⟨34, _⟩ => ⟨S32768x1024, .f32⟩
  | .hbm, ⟨35, _⟩ => ⟨S32768x1024, .f32⟩
  | .hbm, ⟨36, _⟩ => ⟨S1x1024x15360, .f32⟩
  | .hbm, ⟨37, _⟩ => ⟨S1024x15360, .f32⟩
  | .hbm, ⟨38, _⟩ => ⟨S32768x15360, .f32⟩
  | .hbm, ⟨39, _⟩ => ⟨S32768x15360, .bf16⟩
  | .hbm, ⟨40, _⟩ => ⟨S32768x1024, .f32⟩
  | .hbm, ⟨41, _⟩ => ⟨S16x2048x16x64, .f32⟩
  | .hbm, ⟨42, _⟩ => ⟨S16x16x64x2048, .f32⟩
  | .hbm, ⟨43, _⟩ => ⟨S1x16x16x64x2048, .f32⟩
  | .hbm, ⟨44, _⟩ => ⟨S1x16x16x64x2048, .f32⟩
  | .hbm, ⟨45, _⟩ => ⟨S2x16x16x64x2048, .f32⟩
  | .hbm, ⟨46, _⟩ => ⟨S32768x1024, .f32⟩
  | .hbm, ⟨47, _⟩ => ⟨S16x2048x16x64, .f32⟩
  | .hbm, ⟨48, _⟩ => ⟨S16x16x64x2048, .f32⟩
  | .hbm, ⟨49, _⟩ => ⟨S1x16x16x64x2048, .f32⟩
  | .hbm, ⟨50, _⟩ => ⟨S1x16x16x64x2048, .f32⟩
  | .hbm, ⟨51, _⟩ => ⟨S2x16x16x64x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S32768x15360 : Shape := ⟨2, ![32768, 15360]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x1024, .bf16⟩
  | .hbm, ⟨3, _⟩ => ⟨S32768x15360, .bf16⟩
  | .hbm, ⟨4, _⟩ => ⟨S32768x1024, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S32768x2048 : Shape := ⟨2, ![32768, 2048]⟩
abbrev S32768x15360 : Shape := ⟨2, ![32768, 15360]⟩
abbrev S1024x1024 : Shape := ⟨2, ![1024, 1024]⟩
abbrev S2048x1024 : Shape := ⟨2, ![2048, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x1024, .bf16⟩
  | .hbm, ⟨3, _⟩ => ⟨S32768x15360, .bf16⟩
  | .hbm, ⟨4, _⟩ => ⟨S32768x1024, .f32⟩
  | .hbm, ⟨5, _⟩ => ⟨S1024x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024, .f32⟩
  | .hbm, ⟨10, _⟩ => ⟨S1024, .f32⟩
  | .hbm, ⟨11, _⟩ => ⟨S32768x1024, .f32⟩
  | .hbm, ⟨12, _⟩ => ⟨S32768x2048, .f32⟩
  | .hbm, ⟨13, _⟩ => ⟨S32768x1024, .f32⟩
  | .hbm, ⟨14, _⟩ => ⟨S32768x15360, .f32⟩
  | .hbm, ⟨15, _⟩ => ⟨S1024x1024, .f32⟩
  | .hbm, ⟨16, _⟩ => ⟨S2048x1024, .f32⟩
  | .hbm, ⟨17, _⟩ => ⟨S1024x1024, .f32⟩
  | .hbm, ⟨18, _⟩ => ⟨S1024x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S_, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S1x1024, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Proof.Retention.Head.lean ====
/-
  What one grid point of the retention kernel computes for ONE head, first as vectors (the
  kernel's eight unrolled heads are eight instances of these definitions) and then at an index,
  over the extended reals.
-/
module

public import proofs.«01_k».proof.Proof.Gen.KernelIdeal.Skeleton
public import Idealize.ShloMosaic.Lib.Pointwise

@[expose] public section

set_option maxRecDepth 16384

noncomputable section

namespace Cert.Retention

open Idealize.ShloMosaic Idealize.SL.Sem Cert.KernelIdeal Cert.KernelIdeal.Gen

section vectors

variable {F : FTy → Type} [FloatOps F]

/-- A head's queries or keys turned by the rotary angles, with the signed sine table. -/
def turn (C S : Vec F S128x128 .f32) (x : Vec F S128x128 .bf16) : FVec F S128x128 .f32 :=
  addf (mulf (extf .f32 x bitsLt_bf16_f32) (shapeCast S128x128 C shapeCasts_S128x128_S128x128))
    (mulf (dynamicRotate 1 64#32 none (extf .f32 x bitsLt_bf16_f32) rotates_S128x128_d1)
      (shapeCast S128x128 S shapeCasts_S128x128_S128x128))

/-- The turned keys, scaled. -/
def keyed (C S : Vec F S128x128 .f32) (x : Vec F S128x128 .bf16) : FVec F S128x128 .f32 :=
  mulf (turn C S x) (broadcast S128x128 (Scalar.ofBits .f32 0x3DB504F3#32))

/-- The head's mixed values: the chunk against itself under the decay mask, plus the chunk against
    the state carried from before. -/
def mixed (q k : FVec F S128x128 .f32) (v : Vec F S128x256 .bf16) (D Q : Vec F S1x128x128 .f32)
    (St : Vec F S1x128x256 .f32) : FVec F S128x256 .f32 :=
  addf
    (matmul dot_S128x128_S128x256_S128x256_1_0_0_1_n_n none
      (truncf .bf16 (mulf (matmul dot_S128x128_S128x128_S128x128_1_1_0_0_n_n none
        (truncf .bf16 q bitsLt_bf16_f32) (truncf .bf16 k bitsLt_bf16_f32)
        (constant S128x128 .f32 0x00000000#32))
        (shapeCast S128x128 D shapeCasts_S1x128x128_S128x128)) bitsLt_bf16_f32) v
      (constant S128x256 .f32 0x00000000#32))
    (matmul dot_S128x128_S128x256_S128x256_1_0_0_1_n_n none
      (truncf .bf16 (mulf q (shapeCast S128x128 Q shapeCasts_S1x128x128_S128x128)) bitsLt_bf16_f32)
      (truncf .bf16 (shapeCast S128x256 St shapeCasts_S1x128x256_S128x256) bitsLt_bf16_f32)
      (constant S128x256 .f32 0x00000000#32))

/-- The state the head hands on: the old one decayed, plus the chunk's decayed keys against its
    values. -/
def handed (k : FVec F S128x128 .f32) (v : Vec F S128x256 .bf16) (K : Vec F S1x128x128 .f32)
    (g : Elt F .f32) (St : Vec F S1x128x256 .f32) : FVec F S1x128x256 .f32 :=
  shapeCast S1x128x256
    (addf (mulf (broadcast S128x256 g) (shapeCast S128x256 St shapeCasts_S1x128x256_S128x256))
      (matmul dot_S128x128_S128x256_S128x256_0_0_1_1_n_n none
        (truncf .bf16 (mulf k (shapeCast S128x128 K shapeCasts_S1x128x128_S128x128)) bitsLt_bf16_f32)
        v (constant S128x256 .f32 0x00000000#32)))
    shapeCasts_S128x256_S1x128x256

/-- A row's mean over its 256 lanes, as a column. -/
def meaned (o : FVec F S128x256 .f32) : FVec F S128x1 .f32 :=
  divf (shapeCast S128x1 (multiReduction .add [1] S128 o 0x00000000#32 reduces_S128x256_S128 (.inl rfl) rfl)
    shapeCasts_S128_S128x1) (broadcast S128x1 (Scalar.ofBits .f32 0x43800000#32))

/-- The head's values less their row's mean. -/
def centred (o : FVec F S128x256 .f32) : FVec F S128x256 .f32 :=
  subf o (broadcastTo S128x256 (meaned o) broadcasts_S128x1_S128x256)

/-- The head's values normalised over their lanes and gated. -/
def gated (o : FVec F S128x256 .f32) (gate : Vec F S128x256 .bf16) : FVec F S128x256 .bf16 :=
  truncf .bf16 (mulf (mulf (centred o) (broadcastTo S128x256
      (rsqrt (addf (meaned (mulf (centred o) (centred o)))
        (broadcast S128x1 (Scalar.ofBits .f32 0x358637BD#32)))) broadcasts_S128x1_S128x256))
    (mulf (extf .f32 gate bitsLt_bf16_f32) (logistic (extf .f32 gate bitsLt_bf16_f32)))) bitsLt_bf16_f32

end vectors

section read

theorem turn_apply (C S : Vec Ideal S128x128 .f32) (x : Vec Ideal S128x128 .bf16) (r d : Fin 128) :
    turn C S x (ix2 r d) = (x (ix2 r d) * C (ix2 r d)
      + x (ix2 r ⟨(d.val + 64) % 128, Nat.mod_lt _ (by decide)⟩) * S (ix2 r d) : EReal) := by
  have e : (⟨(d.val + 128 - 64) % 128, Nat.mod_lt _ (by decide)⟩ : Fin 128)
      = ⟨(d.val + 64) % 128, Nat.mod_lt _ (by decide)⟩ := Fin.ext (by simp only []; omega)
  pointwise [turn]
  rw [e]

theorem keyed_apply (C S : Vec Ideal S128x128 .f32) (x : Vec Ideal S128x128 .bf16) (r d : Fin 128) :
    keyed C S x (ix2 r d) = (turn C S x (ix2 r d) * Ideal.ofBits .f32 0x3DB504F3#32 : EReal) := by
  pointwise [keyed]

theorem mixed_apply (q k : FVec Ideal S128x128 .f32) (v : Vec Ideal S128x256 .bf16) (D Q : Vec Ideal S1x128x128 .f32)
    (St : Vec Ideal S1x128x256 .f32) (r : Fin 128) (e : Fin 256) :
    mixed q k v D Q St (ix2 r e) = ((∑ m : Fin 128, (∑ d : Fin 128, q (ix2 r d) * k (ix2 m d)) * D (ix3 0 r m) * v (ix2 m e))
      + ∑ d : Fin 128, q (ix2 r d) * Q (ix3 0 r d) * St (ix3 0 d e) : EReal) := by
  pointwise [mixed]

theorem handed_apply (k : FVec Ideal S128x128 .f32) (v : Vec Ideal S128x256 .bf16) (K : Vec Ideal S1x128x128 .f32)
    (g : Elt Ideal .f32) (St : Vec Ideal S1x128x256 .f32) (d : Fin 128) (e : Fin 256) :
    handed k v K g St (ix3 0 d e) = (g * St (ix3 0 d e)
      + ∑ r : Fin 128, k (ix2 r d) * K (ix3 0 r d) * v (ix2 r e) : EReal) := by
  pointwise [handed]

theorem meaned_apply (o : FVec Ideal S128x256 .f32) (r : Fin 128) :
    meaned o (ix2 r 0) = (Ideal.div (∑ e : Fin 256, o (ix2 r e)) (Ideal.ofBits .f32 0x43800000#32) : EReal) := by
  pointwise [meaned]

theorem centred_apply (o : FVec Ideal S128x256 .f32) (r : Fin 128) (e : Fin 256) :
    centred o (ix2 r e) = (o (ix2 r e) - meaned o (ix2 r 0) : EReal) := by
  pointwise [centred]

theorem gated_apply (o : FVec Ideal S128x256 .f32) (gate : Vec Ideal S128x256 .bf16) (r : Fin 128) (e : Fin 256) :
    gated o gate (ix2 r e) = ((centred o (ix2 r e)
      * Ideal.rsqrt (meaned (mulf (centred o) (centred o)) (ix2 r 0) + Ideal.ofBits .f32 0x358637BD#32))
      * (gate (ix2 r e) * Ideal.logistic (gate (ix2 r e))) : EReal) := by
  pointwise [gated]

end read

end Cert.Retention
-- ==== Proof.Retention.Blocks.lean ====
/-
  What a grid point of the retention kernel leaves in its buffers, case by case: the carried state
  and the output block as eight heads laid side by side, each head one instance of the definitions
  of `Head`.
-/
module

public import proofs.«01_k».proof.Proof.Gen.KernelIdeal.Value
public import proofs.«01_k».proof.Proof.Retention.Head
public import Idealize.ShloMosaic.Lib.Pipeline.ValueKit
public import Idealize.ShloMosaic.Lib.Pipeline.ReadBack

@[expose] public section

set_option maxRecDepth 16384

noncomputable section

namespace Cert.Retention

open Idealize.ShloMosaic Idealize.SL.Sem Cert.KernelIdeal Cert.KernelIdeal.Gen Cert.KernelIdeal.Value

variable {F : FTy → Type} [FloatOps F]

/-- What a grid point reads. -/
structure Blocks (F : FTy → Type) [FloatOps F] where
  /-- one decay per head and chunk -/
  g : Vec F S8 .f32
  /-- the chunk's queries -/
  q : Vec F S128x1024 .bf16
  /-- the chunk's keys -/
  k : Vec F S128x1024 .bf16
  /-- the chunk's values -/
  v : Vec F S128x2048 .bf16
  /-- the chunk's gate -/
  gate : Vec F S128x2048 .bf16
  /-- the cosine table -/
  cos : Vec F S128x128 .f32
  /-- the signed sine table -/
  sin : Vec F S128x128 .f32
  /-- the decay mask within a chunk -/
  D : Vec F S8x128x128 .f32
  /-- the decay of a query towards the carried state -/
  Q : Vec F S8x128x128 .f32
  /-- the decay of a key into the state handed on -/
  K : Vec F S8x128x128 .f32

theorem lane128 (h : Fin 8) : ∀ a, (![0, h.val * 128] : Fin 2 → ℕ) a + (![128, 128] : Fin 2 → ℕ) a ≤ S128x1024.size a := by
  revert h; decide

theorem lane256 (h : Fin 8) : ∀ a, (![0, h.val * 256] : Fin 2 → ℕ) a + (![128, 256] : Fin 2 → ℕ) a ≤ S128x2048.size a := by
  revert h; decide

theorem slab128 (h : Fin 8) : ∀ a, (![h.val, 0, 0] : Fin 3 → ℕ) a + (![1, 128, 128] : Fin 3 → ℕ) a ≤ S8x128x128.size a := by
  revert h; decide

theorem slab256 (h : Fin 8) : ∀ a, (![h.val, 0, 0] : Fin 3 → ℕ) a + (![1, 128, 256] : Fin 3 → ℕ) a ≤ S8x128x256.size a := by
  revert h; decide

theorem one8 (h : Fin 8) : ∀ a, (![h.val] : Fin 1 → ℕ) a + (![1] : Fin 1 → ℕ) a ≤ S8.size a := by
  revert h; decide

/-- Head `h`'s turned queries. -/
def headQ (X : Blocks F) (h : Fin 8) : FVec F S128x128 .f32 :=
  turn X.cos X.sin (View.ld X.q (Rect.unit ![0, h.val * 128] ![128, 128] (lane128 h)))

/-- Head `h`'s turned and scaled keys. -/
def headK (X : Blocks F) (h : Fin 8) : FVec F S128x128 .f32 :=
  keyed X.cos X.sin (View.ld X.k (Rect.unit ![0, h.val * 128] ![128, 128] (lane128 h)))

/-- Head `h`'s state after the chunk, from the state `St` of all heads before it. -/
def headState (X : Blocks F) (St : Vec F S8x128x256 .f32) (h : Fin 8) : FVec F S1x128x256 .f32 :=
  handed (headK X h) (View.ld X.v (Rect.unit ![0, h.val * 256] ![128, 256] (lane256 h)))
    (View.ld X.K (Rect.unit ![h.val, 0, 0] ![1, 128, 128] (slab128 h)))
    (View.ld X.g (Rect.unit ![h.val] ![1] (one8 h)) (Shape.Idx.first (s := S1) (by decide)))
    (View.ld St (Rect.unit ![h.val, 0, 0] ![1, 128, 256] (slab256 h)))

/-- Head `h`'s mixed values over the chunk. -/
def headMixed (X : Blocks F) (St : Vec F S8x128x256 .f32) (h : Fin 8) : FVec F S128x256 .f32 :=
  mixed (headQ X h) (headK X h) (View.ld X.v (Rect.unit ![0, h.val * 256] ![128, 256] (lane256 h)))
    (View.ld X.D (Rect.unit ![h.val, 0, 0] ![1, 128, 128] (slab128 h)))
    (View.ld X.Q (Rect.unit ![h.val, 0, 0] ![1, 128, 128] (slab128 h)))
    (View.ld St (Rect.unit ![h.val, 0, 0] ![1, 128, 256] (slab256 h)))

/-- Head `h`'s part of the output block. -/
def headOut (X : Blocks F) (St : Vec F S8x128x256 .f32) (h : Fin 8) : FVec F S128x256 .bf16 :=
  gated (headMixed X St h) (View.ld X.gate (Rect.unit ![0, h.val * 256] ![128, 256] (lane256 h)))

/-- The state of all heads after the chunk. -/
def nextState (X : Blocks F) (St : Vec F S8x128x256 .f32) : Vec F S8x128x256 .f32 :=
  fun y => headState X St (y 0) (ix3 0 (y 1) (y 2))

/-- The output block of the chunk. -/
def outBlock (X : Blocks F) (St : Vec F S8x128x256 .f32) : Vec F S128x2048 .bf16 :=
  fun y => headOut X St ⟨(y 1).val / 256, by have := (y 1).isLt; simp at this; omega⟩
    (ix2 (y 0) ⟨(y 1).val % 256, Nat.mod_lt _ (by decide)⟩)

/-- A store of head `h`'s state is its slab of `nextState`. -/
theorem piece_state (X : Blocks F) (St : Vec F S8x128x256 .f32) (h : Fin 8) (n : ℕ) (hn : n = h.val)
    (inb : ∀ a, (![n, 0, 0] : Fin 3 → ℕ) a + (![1, 128, 256] : Fin 3 → ℕ) a ≤ S8x128x256.size a)
    (w : Vec F S1x128x256 .f32) (hw : w = headState X St h) (x : S1x128x256.Idx) :
    w x = nextState X St ((Rect.unit (s := S8x128x256) ![n, 0, 0] ![1, 128, 256] inb).emb x) := by
  subst hn hw
  idx_vars x
  have e0 : (Rect.unit (s := S8x128x256) ![h.val, 0, 0] ![1, 128, 256] inb).emb (ix3 x0 x1 x2) = ix3 h x1 x2 := by
    funext a
    apply Fin.ext
    rw [ValueKit.rect_emb_unit_val]
    match a with
    | ⟨0, _⟩ => show h.val + x0.val = h.val; omega
    | ⟨1, _⟩ => show 0 + x1.val = x1.val; omega
    | ⟨2, _⟩ => show 0 + x2.val = x2.val; omega
  rw [e0]
  have e1 : x0 = 0 := Fin.ext (by omega)
  subst e1
  rfl

/-- A store of head `h`'s output is its columns of `outBlock`. -/
theorem piece_out (X : Blocks F) (St : Vec F S8x128x256 .f32) (h : Fin 8) (n : ℕ) (hn : n = h.val * 256)
    (inb : ∀ a, (![0, n] : Fin 2 → ℕ) a + (![128, 256] : Fin 2 → ℕ) a ≤ S128x2048.size a)
    (w : Vec F S128x256 .bf16) (hw : w = headOut X St h) (x : S128x256.Idx) :
    w x = outBlock X St ((Rect.unit (s := S128x2048) ![0, n] ![128, 256] inb).emb x) := by
  subst hn hw
  idx_vars x
  have e0 : (Rect.unit (s := S128x2048) ![0, h.val * 256] ![128, 256] inb).emb (ix2 x0 x1)
      = ix2 x0 ⟨h.val * 256 + x1.val, by omega⟩ := by
    funext a
    apply Fin.ext
    rw [ValueKit.rect_emb_unit_val]
    match a with
    | ⟨0, _⟩ => show 0 + x0.val = x0.val; omega
    | ⟨1, _⟩ => show h.val * 256 + x1.val = h.val * 256 + x1.val; omega
  rw [e0]
  show headOut X St h (ix2 x0 x1) = headOut X St ⟨(h.val * 256 + x1.val) / 256, _⟩ (ix2 x0 ⟨(h.val * 256 + x1.val) % 256, _⟩)
  have e1 : (⟨(h.val * 256 + x1.val) / 256, by omega⟩ : Fin 8) = h := Fin.ext (by simp only []; omega)
  have e2 : (⟨(h.val * 256 + x1.val) % 256, by omega⟩ : Fin 256) = x1 := Fin.ext (by simp only []; omega)
  rw [e1, e2]

/-- Eight stores of the heads' parts, over any earlier stores, leave `nextState`. -/
theorem canon_state (X : Blocks F) (St : Vec F S8x128x256 .f32) (L : List (View.Piece (Elt F) S8x128x256 .f32))
    (w7 : Vec F S1x128x256 .f32) (e7 : w7 = headState X St 7)
    (w6 : Vec F S1x128x256 .f32) (e6 : w6 = headState X St 6)
    (w5 : Vec F S1x128x256 .f32) (e5 : w5 = headState X St 5)
    (w4 : Vec F S1x128x256 .f32) (e4 : w4 = headState X St 4)
    (w3 : Vec F S1x128x256 .f32) (e3 : w3 = headState X St 3)
    (w2 : Vec F S1x128x256 .f32) (e2 : w2 = headState X St 2)
    (w1 : Vec F S1x128x256 .f32) (e1 : w1 = headState X St 1)
    (w0 : Vec F S1x128x256 .f32) (e0 : w0 = headState X St 0) :
    View.canon (
      (⟨Rect.unit (s := S8x128x256) ![7, 0, 0] ![1, 128, 256] inb_S8x128x256_S1x128x256_7_0_0, w7⟩ : View.Piece (Elt F) S8x128x256 .f32) ::
      (⟨Rect.unit (s := S8x128x256) ![6, 0, 0] ![1, 128, 256] inb_S8x128x256_S1x128x256_6_0_0, w6⟩ : View.Piece (Elt F) S8x128x256 .f32) ::
      (⟨Rect.unit (s := S8x128x256) ![5, 0, 0] ![1, 128, 256] inb_S8x128x256_S1x128x256_5_0_0, w5⟩ : View.Piece (Elt F) S8x128x256 .f32) ::
      (⟨Rect.unit (s := S8x128x256) ![4, 0, 0] ![1, 128, 256] inb_S8x128x256_S1x128x256_4_0_0, w4⟩ : View.Piece (Elt F) S8x128x256 .f32) ::
      (⟨Rect.unit (s := S8x128x256) ![3, 0, 0] ![1, 128, 256] inb_S8x128x256_S1x128x256_3_0_0, w3⟩ : View.Piece (Elt F) S8x128x256 .f32) ::
      (⟨Rect.unit (s := S8x128x256) ![2, 0, 0] ![1, 128, 256] inb_S8x128x256_S1x128x256_2_0_0, w2⟩ : View.Piece (Elt F) S8x128x256 .f32) ::
      (⟨Rect.unit (s := S8x128x256) ![1, 0, 0] ![1, 128, 256] inb_S8x128x256_S1x128x256_1_0_0, w1⟩ : View.Piece (Elt F) S8x128x256 .f32) ::
      (⟨Rect.unit (s := S8x128x256) ![0, 0, 0] ![1, 128, 256] inb_S8x128x256_S1x128x256_0_0_0, w0⟩ : View.Piece (Elt F) S8x128x256 .f32) :: L) = nextState X St := by
  funext y
  refine View.canon_append_of_piecesOf (nextState X St) L [
      (⟨Rect.unit (s := S8x128x256) ![7, 0, 0] ![1, 128, 256] inb_S8x128x256_S1x128x256_7_0_0, w7⟩ : View.Piece (Elt F) S8x128x256 .f32),
      (⟨Rect.unit (s := S8x128x256) ![6, 0, 0] ![1, 128, 256] inb_S8x128x256_S1x128x256_6_0_0, w6⟩ : View.Piece (Elt F) S8x128x256 .f32),
      (⟨Rect.unit (s := S8x128x256) ![5, 0, 0] ![1, 128, 256] inb_S8x128x256_S1x128x256_5_0_0, w5⟩ : View.Piece (Elt F) S8x128x256 .f32),
      (⟨Rect.unit (s := S8x128x256) ![4, 0, 0] ![1, 128, 256] inb_S8x128x256_S1x128x256_4_0_0, w4⟩ : View.Piece (Elt F) S8x128x256 .f32),
      (⟨Rect.unit (s := S8x128x256) ![3, 0, 0] ![1, 128, 256] inb_S8x128x256_S1x128x256_3_0_0, w3⟩ : View.Piece (Elt F) S8x128x256 .f32),
      (⟨Rect.unit (s := S8x128x256) ![2, 0, 0] ![1, 128, 256] inb_S8x128x256_S1x128x256_2_0_0, w2⟩ : View.Piece (Elt F) S8x128x256 .f32),
      (⟨Rect.unit (s := S8x128x256) ![1, 0, 0] ![1, 128, 256] inb_S8x128x256_S1x128x256_1_0_0, w1⟩ : View.Piece (Elt F) S8x128x256 .f32),
      (⟨Rect.unit (s := S8x128x256) ![0, 0, 0] ![1, 128, 256] inb_S8x128x256_S1x128x256_0_0_0, w0⟩ : View.Piece (Elt F) S8x128x256 .f32)] ?_ y ?_
  · refine ⟨?_, ?_, ?_, ?_, ?_, ?_, ?_, ?_, trivial⟩
    · exact piece_state X St 7 7 rfl inb_S8x128x256_S1x128x256_7_0_0 w7 e7
    · exact piece_state X St 6 6 rfl inb_S8x128x256_S1x128x256_6_0_0 w6 e6
    · exact piece_state X St 5 5 rfl inb_S8x128x256_S1x128x256_5_0_0 w5 e5
    · exact piece_state X St 4 4 rfl inb_S8x128x256_S1x128x256_4_0_0 w4 e4
    · exact piece_state X St 3 3 rfl inb_S8x128x256_S1x128x256_3_0_0 w3 e3
    · exact piece_state X St 2 2 rfl inb_S8x128x256_S1x128x256_2_0_0 w2 e2
    · exact piece_state X St 1 1 rfl inb_S8x128x256_S1x128x256_1_0_0 w1 e1
    · exact piece_state X St 0 0 rfl inb_S8x128x256_S1x128x256_0_0_0 w0 e0
  · exact View.cover_of_tiledL _ ![1, 128, 256] (by sl_kernel_rfl) y

/-- Eight stores of the heads' parts, over any earlier stores, leave `outBlock`. -/
theorem canon_out (X : Blocks F) (St : Vec F S8x128x256 .f32) (L : List (View.Piece (Elt F) S128x2048 .bf16))
    (w7 : Vec F S128x256 .bf16) (e7 : w7 = headOut X St 7)
    (w6 : Vec F S128x256 .bf16) (e6 : w6 = headOut X St 6)
    (w5 : Vec F S128x256 .bf16) (e5 : w5 = headOut X St 5)
    (w4 : Vec F S128x256 .bf16) (e4 : w4 = headOut X St 4)
    (w3 : Vec F S128x256 .bf16) (e3 : w3 = headOut X St 3)
    (w2 : Vec F S128x256 .bf16) (e2 : w2 = headOut X St 2)
    (w1 : Vec F S128x256 .bf16) (e1 : w1 = headOut X St 1)
    (w0 : Vec F S128x256 .bf16) (e0 : w0 = headOut X St 0) :
    View.canon (
      (⟨Rect.unit (s := S128x2048) ![0, 1792] ![128, 256] inb_S128x2048_S128x256_0_1792, w7⟩ : View.Piece (Elt F) S128x2048 .bf16) ::
      (⟨Rect.unit (s := S128x2048) ![0, 1536] ![128, 256] inb_S128x2048_S128x256_0_1536, w6⟩ : View.Piece (Elt F) S128x2048 .bf16) ::
      (⟨Rect.unit (s := S128x2048) ![0, 1280] ![128, 256] inb_S128x2048_S128x256_0_1280, w5⟩ : View.Piece (Elt F) S128x2048 .bf16) ::
      (⟨Rect.unit (s := S128x2048) ![0, 1024] ![128, 256] inb_S128x2048_S128x256_0_1024, w4⟩ : View.Piece (Elt F) S128x2048 .bf16) ::
      (⟨Rect.unit (s := S128x2048) ![0, 768] ![128, 256] inb_S128x2048_S128x256_0_768, w3⟩ : View.Piece (Elt F) S128x2048 .bf16) ::
      (⟨Rect.unit (s := S128x2048) ![0, 512] ![128, 256] inb_S128x2048_S128x256_0_512, w2⟩ : View.Piece (Elt F) S128x2048 .bf16) ::
      (⟨Rect.unit (s := S128x2048) ![0, 256] ![128, 256] inb_S128x2048_S128x256_0_256, w1⟩ : View.Piece (Elt F) S128x2048 .bf16) ::
      (⟨Rect.unit (s := S128x2048) ![0, 0] ![128, 256] inb_S128x2048_S128x256_0_0, w0⟩ : View.Piece (Elt F) S128x2048 .bf16) :: L) = outBlock X St := by
  funext y
  refine View.canon_append_of_piecesOf (outBlock X St) L [
      (⟨Rect.unit (s := S128x2048) ![0, 1792] ![128, 256] inb_S128x2048_S128x256_0_1792, w7⟩ : View.Piece (Elt F) S128x2048 .bf16),
      (⟨Rect.unit (s := S128x2048) ![0, 1536] ![128, 256] inb_S128x2048_S128x256_0_1536, w6⟩ : View.Piece (Elt F) S128x2048 .bf16),
      (⟨Rect.unit (s := S128x2048) ![0, 1280] ![128, 256] inb_S128x2048_S128x256_0_1280, w5⟩ : View.Piece (Elt F) S128x2048 .bf16),
      (⟨Rect.unit (s := S128x2048) ![0, 1024] ![128, 256] inb_S128x2048_S128x256_0_1024, w4⟩ : View.Piece (Elt F) S128x2048 .bf16),
      (⟨Rect.unit (s := S128x2048) ![0, 768] ![128, 256] inb_S128x2048_S128x256_0_768, w3⟩ : View.Piece (Elt F) S128x2048 .bf16),
      (⟨Rect.unit (s := S128x2048) ![0, 512] ![128, 256] inb_S128x2048_S128x256_0_512, w2⟩ : View.Piece (Elt F) S128x2048 .bf16),
      (⟨Rect.unit (s := S128x2048) ![0, 256] ![128, 256] inb_S128x2048_S128x256_0_256, w1⟩ : View.Piece (Elt F) S128x2048 .bf16),
      (⟨Rect.unit (s := S128x2048) ![0, 0] ![128, 256] inb_S128x2048_S128x256_0_0, w0⟩ : View.Piece (Elt F) S128x2048 .bf16)] ?_ y ?_
  · refine ⟨?_, ?_, ?_, ?_, ?_, ?_, ?_, ?_, trivial⟩
    · exact piece_out X St 7 1792 rfl inb_S128x2048_S128x256_0_1792 w7 e7
    · exact piece_out X St 6 1536 rfl inb_S128x2048_S128x256_0_1536 w6 e6
    · exact piece_out X St 5 1280 rfl inb_S128x2048_S128x256_0_1280 w5 e5
    · exact piece_out X St 4 1024 rfl inb_S128x2048_S128x256_0_1024 w4 e4
    · exact piece_out X St 3 768 rfl inb_S128x2048_S128x256_0_768 w3 e3
    · exact piece_out X St 2 512 rfl inb_S128x2048_S128x256_0_512 w2 e2
    · exact piece_out X St 1 256 rfl inb_S128x2048_S128x256_0_256 w1 e1
    · exact piece_out X St 0 0 rfl inb_S128x2048_S128x256_0_0 w0 e0
  · exact View.cover_of_tiledL _ ![128, 256] (by sl_kernel_rfl) y

variable (m : (ℓ : Loc nD τ sig) → Buf (Elt F) ℓ)

/-- What grid point `t` reads, of the arrays the launch finds. -/
def blocksAt (c : Dev nD) (t : Fin cfg0.N) : Blocks F :=
  { g := iblk m c 0 t, q := iblk m c 1 t, k := iblk m c 2 t, v := X0_3 m c t, gate := X0_4 m c t,
    cos := iblk m c 5 t, sin := iblk m c 6 t, D := iblk m c 7 t, Q := iblk m c 8 t, K := iblk m c 9 t }

end Cert.Retention
-- ==== Proof.Retention.Heads.lean ====
/-
  The values each head's store carries, written with the definitions of `Head`: the eight heads are
  the same computation on eight column slices.
-/
module

public import proofs.«01_k».proof.Proof.Retention.Blocks

@[expose] public section

set_option maxRecDepth 16384

noncomputable section

namespace Cert.Retention

open Idealize.ShloMosaic Idealize.SL.Sem Cert.KernelIdeal Cert.KernelIdeal.Gen Cert.KernelIdeal.Value

variable {F : FTy → Type} [FloatOps F]

theorem stored0 (C : Vec F S128x128 .f32) (S : Vec F S128x128 .f32) (k : Vec F S128x128 .bf16) (v : Vec F S128x256 .bf16) (K : Vec F S1x128x128 .f32) (g : Elt F .f32) (P : Vec F S1x128x256 .f32) :
    k0_pay10 (k0_pay7 C S k) v (k0_pay8 P) g K = handed (keyed C S k) v K g P := rfl

/-- What head 0 stores as its state. -/
theorem stored0_at (X : Blocks F) (St : Vec F S8x128x256 .f32) :
    k0_pay10 (k0_pay7 X.cos X.sin (View.ld X.k (Rect.unit ![0, 0] ![128, 128] (lane128 0)))) (View.ld X.v (Rect.unit ![0, 0] ![128, 256] (lane256 0))) (k0_pay8 (View.ld St (Rect.unit ![0, 0, 0] ![1, 128, 256] (slab256 0)))) (View.ld X.g (Rect.unit ![0] ![1] (one8 0)) (Shape.Idx.first (s := S1) (by decide))) (View.ld X.K (Rect.unit ![0, 0, 0] ![1, 128, 128] (slab128 0)))
      = headState X St 0 :=
  (stored0 X.cos X.sin (View.ld X.k (Rect.unit ![0, 0] ![128, 128] (lane128 0))) (View.ld X.v (Rect.unit ![0, 0] ![128, 256] (lane256 0))) (View.ld X.K (Rect.unit ![0, 0, 0] ![1, 128, 128] (slab128 0))) (View.ld X.g (Rect.unit ![0] ![1] (one8 0)) (Shape.Idx.first (s := S1) (by decide))) (View.ld St (Rect.unit ![0, 0, 0] ![1, 128, 256] (slab256 0)))).trans rfl

theorem stored1 (C : Vec F S128x128 .f32) (S : Vec F S128x128 .f32) (k : Vec F S128x128 .bf16) (v : Vec F S128x256 .bf16) (K : Vec F S1x128x128 .f32) (g : Elt F .f32) (P : Vec F S1x128x256 .f32) :
    k0_pay16 (k0_pay12 (k0_pay4 C) (k0_pay5 S) k) v (k0_pay15 P g) K = handed (keyed C S k) v K g P := rfl

/-- What head 1 stores as its state. -/
theorem stored1_at (X : Blocks F) (St : Vec F S8x128x256 .f32) :
    k0_pay16 (k0_pay12 (k0_pay4 X.cos) (k0_pay5 X.sin) (View.ld X.k (Rect.unit ![0, 128] ![128, 128] (lane128 1)))) (View.ld X.v (Rect.unit ![0, 256] ![128, 256] (lane256 1))) (k0_pay15 (View.ld St (Rect.unit ![1, 0, 0] ![1, 128, 256] (slab256 1))) (View.ld X.g (Rect.unit ![1] ![1] (one8 1)) (Shape.Idx.first (s := S1) (by decide)))) (View.ld X.K (Rect.unit ![1, 0, 0] ![1, 128, 128] (slab128 1)))
      = headState X St 1 :=
  (stored1 X.cos X.sin (View.ld X.k (Rect.unit ![0, 128] ![128, 128] (lane128 1))) (View.ld X.v (Rect.unit ![0, 256] ![128, 256] (lane256 1))) (View.ld X.K (Rect.unit ![1, 0, 0] ![1, 128, 128] (slab128 1))) (View.ld X.g (Rect.unit ![1] ![1] (one8 1)) (Shape.Idx.first (s := S1) (by decide))) (View.ld St (Rect.unit ![1, 0, 0] ![1, 128, 256] (slab256 1)))).trans rfl

theorem stored2 (C : Vec F S128x128 .f32) (S : Vec F S128x128 .f32) (k : Vec F S128x128 .bf16) (v : Vec F S128x256 .bf16) (K : Vec F S1x128x128 .f32) (g : Elt F .f32) (P : Vec F S1x128x256 .f32) :
    k0_pay25 (k0_pay24 (k0_pay4 C) (k0_pay5 S) (k0_pay19 k) v P g K) = handed (keyed C S k) v K g P := rfl

/-- What head 2 stores as its state. -/
theorem stored2_at (X : Blocks F) (St : Vec F S8x128x256 .f32) :
    k0_pay25 (k0_pay24 (k0_pay4 X.cos) (k0_pay5 X.sin) (k0_pay19 (View.ld X.k (Rect.unit ![0, 256] ![128, 128] (lane128 2)))) (View.ld X.v (Rect.unit ![0, 512] ![128, 256] (lane256 2))) (View.ld St (Rect.unit ![2, 0, 0] ![1, 128, 256] (slab256 2))) (View.ld X.g (Rect.unit ![2] ![1] (one8 2)) (Shape.Idx.first (s := S1) (by decide))) (View.ld X.K (Rect.unit ![2, 0, 0] ![1, 128, 128] (slab128 2))))
      = headState X St 2 :=
  (stored2 X.cos X.sin (View.ld X.k (Rect.unit ![0, 256] ![128, 128] (lane128 2))) (View.ld X.v (Rect.unit ![0, 512] ![128, 256] (lane256 2))) (View.ld X.K (Rect.unit ![2, 0, 0] ![1, 128, 128] (slab128 2))) (View.ld X.g (Rect.unit ![2] ![1] (one8 2)) (Shape.Idx.first (s := S1) (by decide))) (View.ld St (Rect.unit ![2, 0, 0] ![1, 128, 256] (slab256 2)))).trans rfl

theorem stored3 (C : Vec F S128x128 .f32) (S : Vec F S128x128 .f32) (k : Vec F S128x128 .bf16) (v : Vec F S128x256 .bf16) (K : Vec F S1x128x128 .f32) (g : Elt F .f32) (P : Vec F S1x128x256 .f32) :
    k0_pay30 (k0_pay28 (k0_pay4 C) (k0_pay5 S) k) v P g K = handed (keyed C S k) v K g P := rfl

/-- What head 3 stores as its state. -/
theorem stored3_at (X : Blocks F) (St : Vec F S8x128x256 .f32) :
    k0_pay30 (k0_pay28 (k0_pay4 X.cos) (k0_pay5 X.sin) (View.ld X.k (Rect.unit ![0, 384] ![128, 128] (lane128 3)))) (View.ld X.v (Rect.unit ![0, 768] ![128, 256] (lane256 3))) (View.ld St (Rect.unit ![3, 0, 0] ![1, 128, 256] (slab256 3))) (View.ld X.g (Rect.unit ![3] ![1] (one8 3)) (Shape.Idx.first (s := S1) (by decide))) (View.ld X.K (Rect.unit ![3, 0, 0] ![1, 128, 128] (slab128 3)))
      = headState X St 3 :=
  (stored3 X.cos X.sin (View.ld X.k (Rect.unit ![0, 384] ![128, 128] (lane128 3))) (View.ld X.v (Rect.unit ![0, 768] ![128, 256] (lane256 3))) (View.ld X.K (Rect.unit ![3, 0, 0] ![1, 128, 128] (slab128 3))) (View.ld X.g (Rect.unit ![3] ![1] (one8 3)) (Shape.Idx.first (s := S1) (by decide))) (View.ld St (Rect.unit ![3, 0, 0] ![1, 128, 256] (slab256 3)))).trans rfl

theorem stored4 (C : Vec F S128x128 .f32) (S : Vec F S128x128 .f32) (k : Vec F S128x128 .bf16) (v : Vec F S128x256 .bf16) (K : Vec F S1x128x128 .f32) (g : Elt F .f32) (P : Vec F S1x128x256 .f32) :
    k0_pay38 (k0_pay35 (k0_pay4 C) (k0_pay5 S) k) v P g K = handed (keyed C S k) v K g P := rfl

/-- What head 4 stores as its state. -/
theorem stored4_at (X : Blocks F) (St : Vec F S8x128x256 .f32) :
    k0_pay38 (k0_pay35 (k0_pay4 X.cos) (k0_pay5 X.sin) (View.ld X.k (Rect.unit ![0, 512] ![128, 128] (lane128 4)))) (View.ld X.v (Rect.unit ![0, 1024] ![128, 256] (lane256 4))) (View.ld St (Rect.unit ![4, 0, 0] ![1, 128, 256] (slab256 4))) (View.ld X.g (Rect.unit ![4] ![1] (one8 4)) (Shape.Idx.first (s := S1) (by decide))) (View.ld X.K (Rect.unit ![4, 0, 0] ![1, 128, 128] (slab128 4)))
      = headState X St 4 :=
  (stored4 X.cos X.sin (View.ld X.k (Rect.unit ![0, 512] ![128, 128] (lane128 4))) (View.ld X.v (Rect.unit ![0, 1024] ![128, 256] (lane256 4))) (View.ld X.K (Rect.unit ![4, 0, 0] ![1, 128, 128] (slab128 4))) (View.ld X.g (Rect.unit ![4] ![1] (one8 4)) (Shape.Idx.first (s := S1) (by decide))) (View.ld St (Rect.unit ![4, 0, 0] ![1, 128, 256] (slab256 4)))).trans rfl

theorem stored5 (C : Vec F S128x128 .f32) (S : Vec F S128x128 .f32) (k : Vec F S128x128 .bf16) (v : Vec F S128x256 .bf16) (K : Vec F S1x128x128 .f32) (g : Elt F .f32) (P : Vec F S1x128x256 .f32) :
    k0_pay48 (k0_pay44 (k0_pay4 C) (k0_pay5 S) k) v (k0_pay45 P) g K = handed (keyed C S k) v K g P := rfl

/-- What head 5 stores as its state. -/
theorem stored5_at (X : Blocks F) (St : Vec F S8x128x256 .f32) :
    k0_pay48 (k0_pay44 (k0_pay4 X.cos) (k0_pay5 X.sin) (View.ld X.k (Rect.unit ![0, 640] ![128, 128] (lane128 5)))) (View.ld X.v (Rect.unit ![0, 1280] ![128, 256] (lane256 5))) (k0_pay45 (View.ld St (Rect.unit ![5, 0, 0] ![1, 128, 256] (slab256 5)))) (View.ld X.g (Rect.unit ![5] ![1] (one8 5)) (Shape.Idx.first (s := S1) (by decide))) (View.ld X.K (Rect.unit ![5, 0, 0] ![1, 128, 128] (slab128 5)))
      = headState X St 5 :=
  (stored5 X.cos X.sin (View.ld X.k (Rect.unit ![0, 640] ![128, 128] (lane128 5))) (View.ld X.v (Rect.unit ![0, 1280] ![128, 256] (lane256 5))) (View.ld X.K (Rect.unit ![5, 0, 0] ![1, 128, 128] (slab128 5))) (View.ld X.g (Rect.unit ![5] ![1] (one8 5)) (Shape.Idx.first (s := S1) (by decide))) (View.ld St (Rect.unit ![5, 0, 0] ![1, 128, 256] (slab256 5)))).trans rfl

theorem stored6 (C : Vec F S128x128 .f32) (S : Vec F S128x128 .f32) (k : Vec F S128x128 .bf16) (v : Vec F S128x256 .bf16) (K : Vec F S1x128x128 .f32) (g : Elt F .f32) (P : Vec F S1x128x256 .f32) :
    k0_pay55 (k0_pay50 (k0_pay4 C) (k0_pay5 S) k) v (k0_pay53 P g) (k0_pay54 K) = handed (keyed C S k) v K g P := rfl

/-- What head 6 stores as its state. -/
theorem stored6_at (X : Blocks F) (St : Vec F S8x128x256 .f32) :
    k0_pay55 (k0_pay50 (k0_pay4 X.cos) (k0_pay5 X.sin) (View.ld X.k (Rect.unit ![0, 768] ![128, 128] (lane128 6)))) (View.ld X.v (Rect.unit ![0, 1536] ![128, 256] (lane256 6))) (k0_pay53 (View.ld St (Rect.unit ![6, 0, 0] ![1, 128, 256] (slab256 6))) (View.ld X.g (Rect.unit ![6] ![1] (one8 6)) (Shape.Idx.first (s := S1) (by decide)))) (k0_pay54 (View.ld X.K (Rect.unit ![6, 0, 0] ![1, 128, 128] (slab128 6))))
      = headState X St 6 :=
  (stored6 X.cos X.sin (View.ld X.k (Rect.unit ![0, 768] ![128, 128] (lane128 6))) (View.ld X.v (Rect.unit ![0, 1536] ![128, 256] (lane256 6))) (View.ld X.K (Rect.unit ![6, 0, 0] ![1, 128, 128] (slab128 6))) (View.ld X.g (Rect.unit ![6] ![1] (one8 6)) (Shape.Idx.first (s := S1) (by decide))) (View.ld St (Rect.unit ![6, 0, 0] ![1, 128, 256] (slab256 6)))).trans rfl

theorem stored7 (C : Vec F S128x128 .f32) (S : Vec F S128x128 .f32) (k : Vec F S128x128 .bf16) (v : Vec F S128x256 .bf16) (K : Vec F S1x128x128 .f32) (g : Elt F .f32) (P : Vec F S1x128x256 .f32) :
    k0_pay63 (k0_pay5 S) (k0_pay57 k) (k0_pay59 (k0_pay4 C) k) (64#32) v P g K = handed (keyed C S k) v K g P := rfl

/-- What head 7 stores as its state. -/
theorem stored7_at (X : Blocks F) (St : Vec F S8x128x256 .f32) :
    k0_pay63 (k0_pay5 X.sin) (k0_pay57 (View.ld X.k (Rect.unit ![0, 896] ![128, 128] (lane128 7)))) (k0_pay59 (k0_pay4 X.cos) (View.ld X.k (Rect.unit ![0, 896] ![128, 128] (lane128 7)))) (64#32) (View.ld X.v (Rect.unit ![0, 1792] ![128, 256] (lane256 7))) (View.ld St (Rect.unit ![7, 0, 0] ![1, 128, 256] (slab256 7))) (View.ld X.g (Rect.unit ![7] ![1] (one8 7)) (Shape.Idx.first (s := S1) (by decide))) (View.ld X.K (Rect.unit ![7, 0, 0] ![1, 128, 128] (slab128 7)))
      = headState X St 7 :=
  (stored7 X.cos X.sin (View.ld X.k (Rect.unit ![0, 896] ![128, 128] (lane128 7))) (View.ld X.v (Rect.unit ![0, 1792] ![128, 256] (lane256 7))) (View.ld X.K (Rect.unit ![7, 0, 0] ![1, 128, 128] (slab128 7))) (View.ld X.g (Rect.unit ![7] ![1] (one8 7)) (Shape.Idx.first (s := S1) (by decide))) (View.ld St (Rect.unit ![7, 0, 0] ![1, 128, 256] (slab256 7)))).trans rfl

theorem written0 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay11 (k0_pay6 C S q) (k0_pay8 P) (k0_pay9 C S q k v D) Q w = gated (mixed (turn C S q) (keyed C S k) v D Q P) w := rfl

/-- What head 0 stores as its output. -/
theorem written0_at (X : Blocks F) (St : Vec F S8x128x256 .f32) :
    k0_pay11 (k0_pay6 X.cos X.sin (View.ld X.q (Rect.unit ![0, 0] ![128, 128] (lane128 0)))) (k0_pay8 (View.ld St (Rect.unit ![0, 0, 0] ![1, 128, 256] (slab256 0)))) (k0_pay9 X.cos X.sin (View.ld X.q (Rect.unit ![0, 0] ![128, 128] (lane128 0))) (View.ld X.k (Rect.unit ![0, 0] ![128, 128] (lane128 0))) (View.ld X.v (Rect.unit ![0, 0] ![128, 256] (lane256 0))) (View.ld X.D (Rect.unit ![0, 0, 0] ![1, 128, 128] (slab128 0)))) (View.ld X.Q (Rect.unit ![0, 0, 0] ![1, 128, 128] (slab128 0))) (View.ld X.gate (Rect.unit ![0, 0] ![128, 256] (lane256 0)))
      = headOut X St 0 :=
  (written0 X.cos X.sin (View.ld X.q (Rect.unit ![0, 0] ![128, 128] (lane128 0))) (View.ld X.k (Rect.unit ![0, 0] ![128, 128] (lane128 0))) (View.ld X.v (Rect.unit ![0, 0] ![128, 256] (lane256 0))) (View.ld X.gate (Rect.unit ![0, 0] ![128, 256] (lane256 0))) (View.ld X.D (Rect.unit ![0, 0, 0] ![1, 128, 128] (slab128 0))) (View.ld X.Q (Rect.unit ![0, 0, 0] ![1, 128, 128] (slab128 0))) (View.ld St (Rect.unit ![0, 0, 0] ![1, 128, 256] (slab256 0)))).trans rfl

theorem written1 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay17 (k0_pay14 (k0_pay4 C) (k0_pay5 S) q k v D P Q) w = gated (mixed (turn C S q) (keyed C S k) v D Q P) w := rfl

/-- What head 1 stores as its output. -/
theorem written1_at (X : Blocks F) (St : Vec F S8x128x256 .f32) :
    k0_pay17 (k0_pay14 (k0_pay4 X.cos) (k0_pay5 X.sin) (View.ld X.q (Rect.unit ![0, 128] ![128, 128] (lane128 1))) (View.ld X.k (Rect.unit ![0, 128] ![128, 128] (lane128 1))) (View.ld X.v (Rect.unit ![0, 256] ![128, 256] (lane256 1))) (View.ld X.D (Rect.unit ![1, 0, 0] ![1, 128, 128] (slab128 1))) (View.ld St (Rect.unit ![1, 0, 0] ![1, 128, 256] (slab256 1))) (View.ld X.Q (Rect.unit ![1, 0, 0] ![1, 128, 128] (slab128 1)))) (View.ld X.gate (Rect.unit ![0, 256] ![128, 256] (lane256 1)))
      = headOut X St 1 :=
  (written1 X.cos X.sin (View.ld X.q (Rect.unit ![0, 128] ![128, 128] (lane128 1))) (View.ld X.k (Rect.unit ![0, 128] ![128, 128] (lane128 1))) (View.ld X.v (Rect.unit ![0, 256] ![128, 256] (lane256 1))) (View.ld X.gate (Rect.unit ![0, 256] ![128, 256] (lane256 1))) (View.ld X.D (Rect.unit ![1, 0, 0] ![1, 128, 128] (slab128 1))) (View.ld X.Q (Rect.unit ![1, 0, 0] ![1, 128, 128] (slab128 1))) (View.ld St (Rect.unit ![1, 0, 0] ![1, 128, 256] (slab256 1)))).trans rfl

theorem written2 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay26 (k0_pay23 (k0_pay4 C) (k0_pay5 S) (k0_pay18 q) (k0_pay19 k) (k0_pay20 (k0_pay4 C) q) (64#32) v D P Q) w = gated (mixed (turn C S q) (keyed C S k) v D Q P) w := rfl

/-- What head 2 stores as its output. -/
theorem written2_at (X : Blocks F) (St : Vec F S8x128x256 .f32) :
    k0_pay26 (k0_pay23 (k0_pay4 X.cos) (k0_pay5 X.sin) (k0_pay18 (View.ld X.q (Rect.unit ![0, 256] ![128, 128] (lane128 2)))) (k0_pay19 (View.ld X.k (Rect.unit ![0, 256] ![128, 128] (lane128 2)))) (k0_pay20 (k0_pay4 X.cos) (View.ld X.q (Rect.unit ![0, 256] ![128, 128] (lane128 2)))) (64#32) (View.ld X.v (Rect.unit ![0, 512] ![128, 256] (lane256 2))) (View.ld X.D (Rect.unit ![2, 0, 0] ![1, 128, 128] (slab128 2))) (View.ld St (Rect.unit ![2, 0, 0] ![1, 128, 256] (slab256 2))) (View.ld X.Q (Rect.unit ![2, 0, 0] ![1, 128, 128] (slab128 2)))) (View.ld X.gate (Rect.unit ![0, 512] ![128, 256] (lane256 2)))
      = headOut X St 2 :=
  (written2 X.cos X.sin (View.ld X.q (Rect.unit ![0, 256] ![128, 128] (lane128 2))) (View.ld X.k (Rect.unit ![0, 256] ![128, 128] (lane128 2))) (View.ld X.v (Rect.unit ![0, 512] ![128, 256] (lane256 2))) (View.ld X.gate (Rect.unit ![0, 512] ![128, 256] (lane256 2))) (View.ld X.D (Rect.unit ![2, 0, 0] ![1, 128, 128] (slab128 2))) (View.ld X.Q (Rect.unit ![2, 0, 0] ![1, 128, 128] (slab128 2))) (View.ld St (Rect.unit ![2, 0, 0] ![1, 128, 256] (slab256 2)))).trans rfl

theorem written3 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay33 (k0_pay31 (k0_pay27 (k0_pay4 C) (k0_pay5 S) q) (k0_pay28 (k0_pay4 C) (k0_pay5 S) k) v D P Q) (k0_pay32 (k0_pay27 (k0_pay4 C) (k0_pay5 S) q) (k0_pay28 (k0_pay4 C) (k0_pay5 S) k) v D P Q) w = gated (mixed (turn C S q) (keyed C S k) v D Q P) w := rfl

/-- What head 3 stores as its output. -/
theorem written3_at (X : Blocks F) (St : Vec F S8x128x256 .f32) :
    k0_pay33 (k0_pay31 (k0_pay27 (k0_pay4 X.cos) (k0_pay5 X.sin) (View.ld X.q (Rect.unit ![0, 384] ![128, 128] (lane128 3)))) (k0_pay28 (k0_pay4 X.cos) (k0_pay5 X.sin) (View.ld X.k (Rect.unit ![0, 384] ![128, 128] (lane128 3)))) (View.ld X.v (Rect.unit ![0, 768] ![128, 256] (lane256 3))) (View.ld X.D (Rect.unit ![3, 0, 0] ![1, 128, 128] (slab128 3))) (View.ld St (Rect.unit ![3, 0, 0] ![1, 128, 256] (slab256 3))) (View.ld X.Q (Rect.unit ![3, 0, 0] ![1, 128, 128] (slab128 3)))) (k0_pay32 (k0_pay27 (k0_pay4 X.cos) (k0_pay5 X.sin) (View.ld X.q (Rect.unit ![0, 384] ![128, 128] (lane128 3)))) (k0_pay28 (k0_pay4 X.cos) (k0_pay5 X.sin) (View.ld X.k (Rect.unit ![0, 384] ![128, 128] (lane128 3)))) (View.ld X.v (Rect.unit ![0, 768] ![128, 256] (lane256 3))) (View.ld X.D (Rect.unit ![3, 0, 0] ![1, 128, 128] (slab128 3))) (View.ld St (Rect.unit ![3, 0, 0] ![1, 128, 256] (slab256 3))) (View.ld X.Q (Rect.unit ![3, 0, 0] ![1, 128, 128] (slab128 3)))) (View.ld X.gate (Rect.unit ![0, 768] ![128, 256] (lane256 3)))
      = headOut X St 3 :=
  (written3 X.cos X.sin (View.ld X.q (Rect.unit ![0, 384] ![128, 128] (lane128 3))) (View.ld X.k (Rect.unit ![0, 384] ![128, 128] (lane128 3))) (View.ld X.v (Rect.unit ![0, 768] ![128, 256] (lane256 3))) (View.ld X.gate (Rect.unit ![0, 768] ![128, 256] (lane256 3))) (View.ld X.D (Rect.unit ![3, 0, 0] ![1, 128, 128] (slab128 3))) (View.ld X.Q (Rect.unit ![3, 0, 0] ![1, 128, 128] (slab128 3))) (View.ld St (Rect.unit ![3, 0, 0] ![1, 128, 256] (slab256 3)))).trans rfl

theorem written4 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay42 (k0_pay39 (k0_pay34 (k0_pay4 C) (k0_pay5 S) q) v (k0_pay36 (k0_pay4 C) (k0_pay5 S) q k D) P Q) (k0_pay40 w) (k0_pay41 (k0_pay34 (k0_pay4 C) (k0_pay5 S) q) v (k0_pay36 (k0_pay4 C) (k0_pay5 S) q k D) P Q) = gated (mixed (turn C S q) (keyed C S k) v D Q P) w := rfl

/-- What head 4 stores as its output. -/
theorem written4_at (X : Blocks F) (St : Vec F S8x128x256 .f32) :
    k0_pay42 (k0_pay39 (k0_pay34 (k0_pay4 X.cos) (k0_pay5 X.sin) (View.ld X.q (Rect.unit ![0, 512] ![128, 128] (lane128 4)))) (View.ld X.v (Rect.unit ![0, 1024] ![128, 256] (lane256 4))) (k0_pay36 (k0_pay4 X.cos) (k0_pay5 X.sin) (View.ld X.q (Rect.unit ![0, 512] ![128, 128] (lane128 4))) (View.ld X.k (Rect.unit ![0, 512] ![128, 128] (lane128 4))) (View.ld X.D (Rect.unit ![4, 0, 0] ![1, 128, 128] (slab128 4)))) (View.ld St (Rect.unit ![4, 0, 0] ![1, 128, 256] (slab256 4))) (View.ld X.Q (Rect.unit ![4, 0, 0] ![1, 128, 128] (slab128 4)))) (k0_pay40 (View.ld X.gate (Rect.unit ![0, 1024] ![128, 256] (lane256 4)))) (k0_pay41 (k0_pay34 (k0_pay4 X.cos) (k0_pay5 X.sin) (View.ld X.q (Rect.unit ![0, 512] ![128, 128] (lane128 4)))) (View.ld X.v (Rect.unit ![0, 1024] ![128, 256] (lane256 4))) (k0_pay36 (k0_pay4 X.cos) (k0_pay5 X.sin) (View.ld X.q (Rect.unit ![0, 512] ![128, 128] (lane128 4))) (View.ld X.k (Rect.unit ![0, 512] ![128, 128] (lane128 4))) (View.ld X.D (Rect.unit ![4, 0, 0] ![1, 128, 128] (slab128 4)))) (View.ld St (Rect.unit ![4, 0, 0] ![1, 128, 256] (slab256 4))) (View.ld X.Q (Rect.unit ![4, 0, 0] ![1, 128, 128] (slab128 4))))
      = headOut X St 4 :=
  (written4 X.cos X.sin (View.ld X.q (Rect.unit ![0, 512] ![128, 128] (lane128 4))) (View.ld X.k (Rect.unit ![0, 512] ![128, 128] (lane128 4))) (View.ld X.v (Rect.unit ![0, 1024] ![128, 256] (lane256 4))) (View.ld X.gate (Rect.unit ![0, 1024] ![128, 256] (lane256 4))) (View.ld X.D (Rect.unit ![4, 0, 0] ![1, 128, 128] (slab128 4))) (View.ld X.Q (Rect.unit ![4, 0, 0] ![1, 128, 128] (slab128 4))) (View.ld St (Rect.unit ![4, 0, 0] ![1, 128, 256] (slab256 4)))).trans rfl

theorem written5 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay49 (k0_pay45 P) (k0_pay46 (k0_pay4 C) (k0_pay5 S) q k v D) (k0_pay47 (k0_pay4 C) (k0_pay5 S) q Q) w = gated (mixed (turn C S q) (keyed C S k) v D Q P) w := rfl

/-- What head 5 stores as its output. -/
theorem written5_at (X : Blocks F) (St : Vec F S8x128x256 .f32) :
    k0_pay49 (k0_pay45 (View.ld St (Rect.unit ![5, 0, 0] ![1, 128, 256] (slab256 5)))) (k0_pay46 (k0_pay4 X.cos) (k0_pay5 X.sin) (View.ld X.q (Rect.unit ![0, 640] ![128, 128] (lane128 5))) (View.ld X.k (Rect.unit ![0, 640] ![128, 128] (lane128 5))) (View.ld X.v (Rect.unit ![0, 1280] ![128, 256] (lane256 5))) (View.ld X.D (Rect.unit ![5, 0, 0] ![1, 128, 128] (slab128 5)))) (k0_pay47 (k0_pay4 X.cos) (k0_pay5 X.sin) (View.ld X.q (Rect.unit ![0, 640] ![128, 128] (lane128 5))) (View.ld X.Q (Rect.unit ![5, 0, 0] ![1, 128, 128] (slab128 5)))) (View.ld X.gate (Rect.unit ![0, 1280] ![128, 256] (lane256 5)))
      = headOut X St 5 :=
  (written5 X.cos X.sin (View.ld X.q (Rect.unit ![0, 640] ![128, 128] (lane128 5))) (View.ld X.k (Rect.unit ![0, 640] ![128, 128] (lane128 5))) (View.ld X.v (Rect.unit ![0, 1280] ![128, 256] (lane256 5))) (View.ld X.gate (Rect.unit ![0, 1280] ![128, 256] (lane256 5))) (View.ld X.D (Rect.unit ![5, 0, 0] ![1, 128, 128] (slab128 5))) (View.ld X.Q (Rect.unit ![5, 0, 0] ![1, 128, 128] (slab128 5))) (View.ld St (Rect.unit ![5, 0, 0] ![1, 128, 256] (slab256 5)))).trans rfl

theorem written6 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay56 (k0_pay52 (k0_pay4 C) (k0_pay5 S) q k v D P Q) w = gated (mixed (turn C S q) (keyed C S k) v D Q P) w := rfl

/-- What head 6 stores as its output. -/
theorem written6_at (X : Blocks F) (St : Vec F S8x128x256 .f32) :
    k0_pay56 (k0_pay52 (k0_pay4 X.cos) (k0_pay5 X.sin) (View.ld X.q (Rect.unit ![0, 768] ![128, 128] (lane128 6))) (View.ld X.k (Rect.unit ![0, 768] ![128, 128] (lane128 6))) (View.ld X.v (Rect.unit ![0, 1536] ![128, 256] (lane256 6))) (View.ld X.D (Rect.unit ![6, 0, 0] ![1, 128, 128] (slab128 6))) (View.ld St (Rect.unit ![6, 0, 0] ![1, 128, 256] (slab256 6))) (View.ld X.Q (Rect.unit ![6, 0, 0] ![1, 128, 128] (slab128 6)))) (View.ld X.gate (Rect.unit ![0, 1536] ![128, 256] (lane256 6)))
      = headOut X St 6 :=
  (written6 X.cos X.sin (View.ld X.q (Rect.unit ![0, 768] ![128, 128] (lane128 6))) (View.ld X.k (Rect.unit ![0, 768] ![128, 128] (lane128 6))) (View.ld X.v (Rect.unit ![0, 1536] ![128, 256] (lane256 6))) (View.ld X.gate (Rect.unit ![0, 1536] ![128, 256] (lane256 6))) (View.ld X.D (Rect.unit ![6, 0, 0] ![1, 128, 128] (slab128 6))) (View.ld X.Q (Rect.unit ![6, 0, 0] ![1, 128, 128] (slab128 6))) (View.ld St (Rect.unit ![6, 0, 0] ![1, 128, 256] (slab256 6)))).trans rfl

theorem written7 (C : Vec F S128x128 .f32) (S : Vec F S128x128 .f32) (q : Vec F S128x128 .bf16) (k : Vec F S128x128 .bf16) (v : Vec F S128x256 .bf16) (w : Vec F S128x256 .bf16) (D : Vec F S1x128x128 .f32) (Q : Vec F S1x128x128 .f32) (P : Vec F S1x128x256 .f32) :
    k0_pay1 (k0_pay62 (k0_pay5 S) (k0_pay57 k) (k0_pay58 (k0_pay4 C) (k0_pay5 S) q) (k0_pay59 (k0_pay4 C) k) (64#32) v D P Q) w = gated (mixed (turn C S q) (keyed C S k) v D Q P) w := rfl

/-- What head 7 stores as its output. -/
theorem written7_at (X : Blocks F) (St : Vec F S8x128x256 .f32) :
    k0_pay1 (k0_pay62 (k0_pay5 X.sin) (k0_pay57 (View.ld X.k (Rect.unit ![0, 896] ![128, 128] (lane128 7)))) (k0_pay58 (k0_pay4 X.cos) (k0_pay5 X.sin) (View.ld X.q (Rect.unit ![0, 896] ![128, 128] (lane128 7)))) (k0_pay59 (k0_pay4 X.cos) (View.ld X.k (Rect.unit ![0, 896] ![128, 128] (lane128 7)))) (64#32) (View.ld X.v (Rect.unit ![0, 1792] ![128, 256] (lane256 7))) (View.ld X.D (Rect.unit ![7, 0, 0] ![1, 128, 128] (slab128 7))) (View.ld St (Rect.unit ![7, 0, 0] ![1, 128, 256] (slab256 7))) (View.ld X.Q (Rect.unit ![7, 0, 0] ![1, 128, 128] (slab128 7)))) (View.ld X.gate (Rect.unit ![0, 1792] ![128, 256] (lane256 7)))
      = headOut X St 7 :=
  (written7 X.cos X.sin (View.ld X.q (Rect.unit ![0, 896] ![128, 128] (lane128 7))) (View.ld X.k (Rect.unit ![0, 896] ![128, 128] (lane128 7))) (View.ld X.v (Rect.unit ![0, 1792] ![128, 256] (lane256 7))) (View.ld X.gate (Rect.unit ![0, 1792] ![128, 256] (lane256 7))) (View.ld X.D (Rect.unit ![7, 0, 0] ![1, 128, 128] (slab128 7))) (View.ld X.Q (Rect.unit ![7, 0, 0] ![1, 128, 128] (slab128 7))) (View.ld St (Rect.unit ![7, 0, 0] ![1, 128, 256] (slab256 7)))).trans rfl

end Cert.Retention
-- ==== Proof.Retention.CaseA.lean ====
/-
  The retention kernel's grid points of case A (the first chunk of a sequence): its buffers are the eight heads' parts.
-/
module

public import proofs.«01_k».proof.Proof.Retention.Heads

@[expose] public section

set_option maxRecDepth 16384
set_option maxHeartbeats 1000000

noncomputable section

namespace Cert.Retention

open Idealize.ShloMosaic Idealize.SL.Sem Cert.KernelIdeal Cert.KernelIdeal.Gen Cert.KernelIdeal.Value

variable {F : FTy → Type} [FloatOps F]
variable (m : (ℓ : Loc nD τ sig) → Buf (Elt F) ℓ)

/-- The carried state such a grid point leaves. -/
theorem state_of_A (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : cond0_0 i) (hc1 : ¬cond0_1 i)
    (X : Blocks F) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K = nextState X k0_pay3 := by
  frame_open
  simp (disch := decide) only [↓ View.readCov_skip, ↓ View.readCov_cons_toLoadRect, ↓ View.readCov_fill]
  frame_out
  refine canon_state X k0_pay3 _ _ ?_ _ ?_ _ ?_ _ ?_ _ ?_ _ ?_ _ ?_ _ ?_
  · exact stored7_at X k0_pay3
  · exact stored6_at X k0_pay3
  · exact stored5_at X k0_pay3
  · exact stored4_at X k0_pay3
  · exact stored3_at X k0_pay3
  · exact stored2_at X k0_pay3
  · exact stored1_at X k0_pay3
  · exact stored0_at X k0_pay3

theorem state_A (c : Dev nD) (t : Fin cfg0.N) (acc) (h0 : t.val % 16 = 0) (h1 : ¬t.val % 16 = 15) :
    (stAt0 m c t.val t.isLt acc).2.2 = nextState (blocksAt m c t) k0_pay3 := by
  rw [stAt0_A m c t acc h0 h1]
  dsimp only
  exact state_of_A _ _ _ _ _ _ _ _ _ _ _ _ _ _ _ _ _ _ _ _ _ _ _ _ _ _ _ _ _ _ (blocksAt m c t)

/-- The output block such a grid point leaves. -/
theorem out_of_A (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : cond0_0 i) (hc1 : ¬cond0_1 i)
    (X : Blocks F) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K = outBlock X k0_pay3 := by
  frame_open
  simp (disch := decide) only [↓ View.readCov_skip, ↓ View.readCov_cons_toLoadRect, ↓ View.readCov_fill]
  frame_out
  refine canon_out X k0_pay3 _ _ ?_ _ ?_ _ ?_ _ ?_ _ ?_ _ ?_ _ ?_ _ ?_
  · exact written7_at X k0_pay3
  · exact written6_at X k0_pay3
  · exact written5_at X k0_pay3
  · exact written4_at X k0_pay3
  · exact written3_at X k0_pay3
  · exact written2_at X k0_pay3
  · exact written1_at X k0_pay3
  · exact written0_at X k0_pay3

theorem out_A (c : Dev nD) (t : Fin cfg0.N) (acc) (h0 : t.val % 16 = 0) (h1 : ¬t.val % 16 = 15) :
    (stAt0 m c t.val t.isLt acc).1 = outBlock (blocksAt m c t) k0_pay3 := by
  rw [stAt0_A m c t acc h0 h1]
  dsimp only
  exact out_of_A _ _ _ _ _ _ _ _ _ _ _ _ _ _ _ _ _ _ _ _ _ _ _ _ _ _ _ _ _ _ (blocksAt m c t)

end Cert.Retention
-- ==== Proof.Retention.CaseB.lean ====
/-
  The retention kernel's grid points of case B (a chunk within a sequence): its buffers are the eight heads' parts.
-/
module

public import proofs.«01_k».proof.Proof.Retention.Heads

@[expose] public section

set_option maxRecDepth 16384
set_option maxHeartbeats 1000000

noncomputable section

namespace Cert.Retention

open Idealize.ShloMosaic Idealize.SL.Sem Cert.KernelIdeal Cert.KernelIdeal.Gen Cert.KernelIdeal.Value

variable {F : FTy → Type} [FloatOps F]
variable (m : (ℓ : Loc nD τ sig) → Buf (Elt F) ℓ)

/-- The carried state such a grid point leaves. -/
theorem state_of_B (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : ¬cond0_0 i) (hc1 : ¬cond0_1 i)
    (X : Blocks F) (St : Vec F S8x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K St = nextState X St := by
  frame_open
  simp (disch := decide) only [↓ View.readCov_skip, ↓ View.readCov_cons_toLoadRect, ↓ View.readCov_fill]
  frame_out
  refine canon_state X St _ _ ?_ _ ?_ _ ?_ _ ?_ _ ?_ _ ?_ _ ?_ _ ?_
  · exact stored7_at X St
  · exact stored6_at X St
  · exact stored5_at X St
  · exact stored4_at X St
  · exact stored3_at X St
  · exact stored2_at X St
  · exact stored1_at X St
  · exact stored0_at X St

theorem state_B (c : Dev nD) (t : Fin cfg0.N) (acc) (h0 : ¬t.val % 16 = 0) (h1 : ¬t.val % 16 = 15) :
    (stAt0 m c t.val t.isLt acc).2.2 = nextState (blocksAt m c t) acc.2.2 := by
  rw [stAt0_B m c t acc h0 h1]
  dsimp only
  exact state_of_B _ _ _ _ _ _ _ _ _ _ _ _ _ _ _ _ _ _ _ _ _ _ _ _ _ _ _ _ _ _ (blocksAt m c t) acc.2.2

/-- The output block such a grid point leaves. -/
theorem out_of_B (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : ¬cond0_0 i) (hc1 : ¬cond0_1 i)
    (X : Blocks F) (St : Vec F S8x128x256 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K St = outBlock X St := by
  frame_open
  simp (disch := decide) only [↓ View.readCov_skip, ↓ View.readCov_cons_toLoadRect, ↓ View.readCov_fill]
  frame_out
  refine canon_out X St _ _ ?_ _ ?_ _ ?_ _ ?_ _ ?_ _ ?_ _ ?_ _ ?_
  · exact written7_at X St
  · exact written6_at X St
  · exact written5_at X St
  · exact written4_at X St
  · exact written3_at X St
  · exact written2_at X St
  · exact written1_at X St
  · exact written0_at X St

theorem out_B (c : Dev nD) (t : Fin cfg0.N) (acc) (h0 : ¬t.val % 16 = 0) (h1 : ¬t.val % 16 = 15) :
    (stAt0 m c t.val t.isLt acc).1 = outBlock (blocksAt m c t) acc.2.2 := by
  rw [stAt0_B m c t acc h0 h1]
  dsimp only
  exact out_of_B _ _ _ _ _ _ _ _ _ _ _ _ _ _ _ _ _ _ _ _ _ _ _ _ _ _ _ _ _ _ (blocksAt m c t) acc.2.2

end Cert.Retention
-- ==== Proof.Retention.CaseC.lean ====
/-
  The retention kernel's grid points of case C (the last chunk of a sequence): its buffers are the eight heads' parts.
-/
module

public import proofs.«01_k».proof.Proof.Retention.Heads

@[expose] public section

set_option maxRecDepth 16384
set_option maxHeartbeats 1000000

noncomputable section

namespace Cert.Retention

open Idealize.ShloMosaic Idealize.SL.Sem Cert.KernelIdeal Cert.KernelIdeal.Gen Cert.KernelIdeal.Value

variable {F : FTy → Type} [FloatOps F]
variable (m : (ℓ : Loc nD τ sig) → Buf (Elt F) ℓ)

/-- The carried state such a grid point leaves. -/
theorem state_of_C (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : ¬cond0_0 i) (hc1 : cond0_1 i)
    (X : Blocks F) (St : Vec F S8x128x256 .f32) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K St = nextState X St := by
  frame_open
  simp (disch := decide) only [↓ View.readCov_skip, ↓ View.readCov_cons_toLoadRect, ↓ View.readCov_fill]
  frame_out
  refine canon_state X St _ _ ?_ _ ?_ _ ?_ _ ?_ _ ?_ _ ?_ _ ?_ _ ?_
  · exact stored7_at X St
  · exact stored6_at X St
  · exact stored5_at X St
  · exact stored4_at X St
  · exact stored3_at X St
  · exact stored2_at X St
  · exact stored1_at X St
  · exact stored0_at X St

theorem state_C (c : Dev nD) (t : Fin cfg0.N) (acc) (h0 : ¬t.val % 16 = 0) (h1 : t.val % 16 = 15) :
    (stAt0 m c t.val t.isLt acc).2.2 = nextState (blocksAt m c t) acc.2.2 := by
  rw [stAt0_C m c t acc h0 h1]
  dsimp only
  exact state_of_C _ _ _ _ _ _ _ _ _ _ _ _ _ _ _ _ _ _ _ _ _ _ _ _ _ _ _ _ _ _ (blocksAt m c t) acc.2.2

/-- The output block such a grid point leaves. -/
theorem out_of_C (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : ¬cond0_0 i) (hc1 : cond0_1 i)
    (X : Blocks F) (St : Vec F S8x128x256 .f32) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K St = outBlock X St := by
  frame_open
  simp (disch := decide) only [↓ View.readCov_skip, ↓ View.readCov_cons_toLoadRect, ↓ View.readCov_fill]
  frame_out
  refine canon_out X St _ _ ?_ _ ?_ _ ?_ _ ?_ _ ?_ _ ?_ _ ?_ _ ?_
  · exact written7_at X St
  · exact written6_at X St
  · exact written5_at X St
  · exact written4_at X St
  · exact written3_at X St
  · exact written2_at X St
  · exact written1_at X St
  · exact written0_at X St

theorem out_C (c : Dev nD) (t : Fin cfg0.N) (acc) (h0 : ¬t.val % 16 = 0) (h1 : t.val % 16 = 15) :
    (stAt0 m c t.val t.isLt acc).1 = outBlock (blocksAt m c t) acc.2.2 := by
  rw [stAt0_C m c t acc h0 h1]
  dsimp only
  exact out_of_C _ _ _ _ _ _ _ _ _ _ _ _ _ _ _ _ _ _ _ _ _ _ _ _ _ _ _ _ _ _ (blocksAt m c t) acc.2.2

/-- What such a grid point hands over as the sequence's final state. -/
theorem kept_of_C (c : Dev nD) (i : grid0.Coords) (arg2 : Memref sig .tc .smem S8 .f32) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S8x128x128 .f32) (harg11 : arg11.IsWhole) (arg12 : Memref sig .tc .vmem S128x2048 .bf16) (harg12 : arg12.IsWhole) (arg13 : Memref sig .tc .vmem S1x8x128x256 .f32) (harg13 : arg13.IsWhole) (arg14 : Memref sig .tc .vmem S8x128x256 .f32) (harg14 : arg14.IsWhole) (hc0 : ¬cond0_0 i) (hc1 : cond0_1 i)
    (X : Blocks F) (St : Vec F S8x128x256 .f32) :
    out0_C_11 c i arg2 harg2 arg3 harg3 arg4 harg4 arg5 harg5 arg6 harg6 arg7 harg7 arg8 harg8 arg9 harg9 arg10 harg10 arg11 harg11 arg12 harg12 arg13 harg13 arg14 harg14 hc0 hc1 X.g X.q X.k X.v X.gate X.cos X.sin X.D X.Q X.K St = k0_pay2 (nextState X St) := by
  frame_open
  simp (disch := decide) only [↓ View.readCov_skip, ↓ View.readCov_cons_toLoadRect, ↓ View.readCov_fill]
  frame_out
  rw [View.readCov_eq_canon']
  refine congrArg k0_pay2 ?_
  funext y
  have hz : (Rect.unit (s := S8x128x256) ![0, 0, 0] ![8, 128, 256] inb_S8x128x256_S8x128x256_0_0_0).toLoadRect.idx y = y := by
    funext a
    apply Fin.ext
    show (![0, 0, 0] : Fin 3 → ℕ) a + 1 * (y a).val = (y a).val
    fin_cases a <;> exact (Nat.zero_add _).trans (Nat.one_mul _)
  beta_reduce
  rw [hz]
  refine congrFun (canon_state X St [] _ ?_ _ ?_ _ ?_ _ ?_ _ ?_ _ ?_ _ ?_ _ ?_) y
  · exact stored7_at X St
  · exact stored6_at X St
  · exact stored5_at X St
  · exact stored4_at X St
  · exact stored3_at X St
  · exact stored2_at X St
  · exact stored1_at X St
  · exact stored0_at X St

theorem kept_C (c : Dev nD) (t : Fin cfg0.N) (acc) (h0 : ¬t.val % 16 = 0) (h1 : t.val % 16 = 15) :
    (stAt0 m c t.val t.isLt acc).2.1 = k0_pay2 (nextState (blocksAt m c t) acc.2.2) := by
  rw [stAt0_C m c t acc h0 h1]
  dsimp only
  exact kept_of_C _ _ _ _ _ _ _ _ _ _ _ _ _ _ _ _ _ _ _ _ _ _ _ _ _ _ _ _ _ _ (blocksAt m c t) acc.2.2

end Cert.Retention
-- ==== Proof.Retention.Angles.lean ====
/-
  The numbers that retention's rotary turn and its decays are made of, over the extended reals: the
  angle of a position and a lane, a head's log decay, and the decays read off from it.
-/
module

public import proofs.«01_k».proof.Proof.Gen.KernelIdeal.Value
public import Idealize.ShloMosaic.Lib.Pointwise

@[expose] public section

noncomputable section

namespace Cert.Retention

open Idealize.ShloMosaic

/-- An index as a number. -/
def num (n : ℕ) : EReal := FloatOps.sitofp (F := Ideal) .f32 (BitVec.ofNat 32 n)

/-- The rotary angle of position `p` at frequency `d`. -/
def angle (p d : ℕ) : EReal :=
  num p * Ideal.pow (Ideal.ofBits .f32 1176256512#32) (Ideal.div (-num d) (Ideal.ofBits .f32 1115684864#32))

/-- Head `h`'s log decay. -/
def logDecay (h : ℕ) : EReal :=
  Ideal.log1p (-Ideal.pow (Ideal.ofBits .f32 1073741824#32) (Ideal.ofBits .f32 3231711232#32 - num h))

/-- The decay of the carried state over a chunk. -/
def chunkDecay (h : ℕ) : EReal := Ideal.exp (logDecay h * Ideal.ofBits .f32 1124073472#32)

/-- The decay of the carried state at row `i` of a chunk. -/
def queryDecay (h i : ℕ) : EReal := Ideal.exp (logDecay h * (num i + 1))

/-- The decay of row `i` of a chunk towards the state handed on. -/
def keyDecay (h i : ℕ) : EReal := Ideal.exp (logDecay h * (Ideal.ofBits .f32 1123942400#32 - num i))

/-- The decay of row `j` as seen by row `i` of the same chunk. -/
def maskDecay (h i j : ℕ) : EReal :=
  if 0 ≤ num i - num j then Ideal.exp (logDecay h * max (num i - num j) 0) else 0

end Cert.Retention
-- ==== Proof.Retention.Tables.lean ====
/-
  The tables the host prepares for the retention kernel, entry by entry.
-/
module

public import proofs.«01_k».proof.Proof.Retention.Angles
public import Idealize.ShloMosaic.Lib.Pointwise
public import Idealize.ShloMosaic.Lib.Pipeline.ValueKit
public import Idealize.ShloMosaic.Lib.Claim

@[expose] public section

set_option maxRecDepth 16384

noncomputable section

namespace Cert.Retention

open Idealize.ShloMosaic Idealize.SL.Sem Cert.KernelIdeal Cert.KernelIdeal.Gen Cert.KernelIdeal.Value

variable (m : (ℓ : Loc nD τ sig) → Buf (Elt Ideal) ℓ)

/-- The cosine table holds every angle twice. -/
theorem cos_table (c : Dev nD) (p : Fin 2048) (d : Fin 128) :
    V m c main_v14 (ix2 p d) = if d.val < 64 then Ideal.cos (angle p.val d.val) else Ideal.cos (angle p.val (d.val - 64)) := by
  simp only [V, List.flatten_cons, List.flatten_nil, List.append_nil, hostOps0, hostOps0_1, hostOps0_2, List.cons_append, List.nil_append]
  entry_read
  pointwise
  rfl

/-- The sine table is negated on its first half. -/
theorem sin_table (c : Dev nD) (p : Fin 2048) (d : Fin 128) :
    V m c main_v16 (ix2 p d) = if d.val < 64 then -Ideal.sin (angle p.val d.val) else Ideal.sin (angle p.val (d.val - 64)) := by
  simp only [V, List.flatten_cons, List.flatten_nil, List.append_nil, hostOps0, hostOps0_1, hostOps0_2, List.cons_append, List.nil_append]
  entry_read
  pointwise
  rfl

theorem chunk_table (c : Dev nD) (h : Fin 8) : V m c main_v63 (ix1 h) = chunkDecay h.val := by
  simp only [V, List.flatten_cons, List.flatten_nil, List.append_nil, hostOps0, hostOps0_1, hostOps0_2, List.cons_append, List.nil_append]
  entry_read
  pointwise
  rfl

theorem query_table (c : Dev nD) (h : Fin 8) (i d : Fin 128) : V m c main_v58 (ix3 h i d) = queryDecay h.val i.val := by
  simp only [V, List.flatten_cons, List.flatten_nil, List.append_nil, hostOps0, hostOps0_1, hostOps0_2, List.cons_append, List.nil_append]
  entry_read
  pointwise
  rfl

theorem key_table (c : Dev nD) (h : Fin 8) (i d : Fin 128) : V m c main_v60 (ix3 h i d) = keyDecay h.val i.val := by
  simp only [V, List.flatten_cons, List.flatten_nil, List.append_nil, hostOps0, hostOps0_1, hostOps0_2, List.cons_append, List.nil_append]
  entry_read
  pointwise
  rfl

end Cert.Retention
-- ==== Proof.Retention.Mask.lean ====
/-
  The table of decays within a chunk, entry by entry.
-/
module

public import proofs.«01_k».proof.Proof.Retention.Angles
public import Idealize.ShloMosaic.Lib.Pointwise
public import Idealize.ShloMosaic.Lib.Pipeline.ValueKit
public import Idealize.ShloMosaic.Lib.Claim

@[expose] public section

set_option maxRecDepth 16384

noncomputable section

namespace Cert.Retention

open Idealize.ShloMosaic Idealize.SL.Sem Cert.KernelIdeal Cert.KernelIdeal.Gen Cert.KernelIdeal.Value

variable (m : (ℓ : Loc nD τ sig) → Buf (Elt Ideal) ℓ)

theorem mask_table (c : Dev nD) (h : Fin 8) (i j : Fin 128) : V m c main_v40 (ix3 h i j) = maskDecay h.val i.val j.val := by
  simp only [V, List.flatten_cons, List.flatten_nil, List.append_nil, hostOps0, hostOps0_1, hostOps0_2, List.cons_append, List.nil_append]
  entry_read
  change select
        (broadcastInDim S8x128x128 ![1, 2] bcast_S128x128_S8x128x128_1_2
                (cmpf CmpFPredicate.oge
                  (subf
                    (broadcastInDim S128x128 ![0, 1] bcast_S128x1_S128x128_0_1
                      (broadcastInDim S128x1 ![0] bcast_S128_S128x1_0 (sitofp FTy.f32 (iotaInDim S128 32 0))))
                    (broadcastInDim S128x128 ![0, 1] bcast_S1x128_S128x128_0_1
                      (broadcastInDim S1x128 ![1] bcast_S128_S1x128_1 (sitofp FTy.f32 (iotaInDim S128 32 0)))))
                  (broadcastInDim S128x128 ![] bcast_S_S128x128 (constant S_ FTy.f32 0#32))))
          (Host.exp
            (mulf
              (broadcastInDim S8x128x128 ![0, 1, 2] bcast_S8x1x1_S8x128x128_0_1_2
                (broadcastInDim S8x1x1 ![0] bcast_S8_S8x1x1_0
                  (Host.log1p
                    (Host.negf
                      (Host.powf (broadcastInDim S8 ![] bcast_S_S8 (constant S_ FTy.f32 1073741824#32))
                        (subf (broadcastInDim S8 ![] bcast_S_S8 (constant S_ FTy.f32 3231711232#32))
                          (sitofp FTy.f32 (iotaInDim S8 32 0))))))))
              (broadcastInDim S8x128x128 ![0, 1, 2] bcast_S1x128x128_S8x128x128_0_1_2
                (broadcastInDim S1x128x128 ![1, 2] bcast_S128x128_S1x128x128_1_2
                  (maximumf
                    (subf
                      (broadcastInDim S128x128 ![0, 1] bcast_S128x1_S128x128_0_1
                        (broadcastInDim S128x1 ![0] bcast_S128_S128x1_0 (sitofp FTy.f32 (iotaInDim S128 32 0))))
                      (broadcastInDim S128x128 ![0, 1] bcast_S1x128_S128x128_0_1
                        (broadcastInDim S1x128 ![1] bcast_S128_S1x128_1 (sitofp FTy.f32 (iotaInDim S128 32 0)))))
                    (broadcastInDim S128x128 ![] bcast_S_S128x128 (constant S_ FTy.f32 0#32)))))))
            (broadcastInDim S8x128x128 ![] bcast_S_S8x128x128 (constant (F := Ideal) S_ FTy.f32 0#32))
      (ix3 h i j) = maskDecay h.val i.val j.val
  pointwise
  rfl

end Cert.Retention
-- ==== Proof.Retention.Read.lean ====
/-
  The blocks that a grid point of the retention kernel reads, entry by entry: rows of its sequence's
  chunk from the input projection, the angles of the chunk's positions, and the decay tables.
-/
module

public import proofs.«01_k».proof.Proof.Retention.Tables
public import proofs.«01_k».proof.Proof.Retention.Mask
public import proofs.«01_k».proof.Proof.Retention.Blocks
public import Idealize.ShloMosaic.Lib.Pointwise
public import Idealize.ShloMosaic.Lib.Pipeline.ValueKit
public import Idealize.ShloMosaic.Lib.Claim

@[expose] public section

set_option maxRecDepth 16384

noncomputable section

namespace Cert.Retention

open Idealize.ShloMosaic Idealize.SL.Sem Cert.KernelIdeal Cert.KernelIdeal.Gen Cert.KernelIdeal.Value

variable (m : (ℓ : Loc nD τ sig) → Buf (Elt Ideal) ℓ)

theorem window_index : ∀ t : Fin cfg0.N, win0_0.index t = ![0] ∧ win0_1.index t = ![t.val, 2] ∧ win0_2.index t = ![t.val, 3]
    ∧ win0_3.index t = ![t.val, 2] ∧ win0_4.index t = ![t.val, 3] ∧ win0_5.index t = ![t.val % 16, 0] ∧ win0_6.index t = ![t.val % 16, 0]
    ∧ win0_7.index t = ![0, 0, 0] ∧ win0_8.index t = ![0, 0, 0] ∧ win0_9.index t = ![0, 0, 0] := by
  decide +kernel

theorem q_at (c : Dev nD) (t : Fin cfg0.N) (r : Fin 128) (d : Fin 1024) :
    (blocksAt m c t).q (ix2 r d) = m ((c.tc : Thread nD τ).loc main_arg0) (ix2 ⟨t.val * 128 + r.val, by have h : t.val < 256 := lt_of_lt_of_eq t.isLt N_0; omega⟩ ⟨2048 + d.val, by omega⟩) := by
  change iblk m c 1 t (ix2 r d) = _
  blk_ext [iblk, V, window_index t]

theorem k_at (c : Dev nD) (t : Fin cfg0.N) (r : Fin 128) (d : Fin 1024) :
    (blocksAt m c t).k (ix2 r d) = m ((c.tc : Thread nD τ).loc main_arg0) (ix2 ⟨t.val * 128 + r.val, by have h : t.val < 256 := lt_of_lt_of_eq t.isLt N_0; omega⟩ ⟨3072 + d.val, by omega⟩) := by
  change iblk m c 2 t (ix2 r d) = _
  blk_ext [iblk, V, window_index t]

theorem v_at (c : Dev nD) (t : Fin cfg0.N) (r : Fin 128) (d : Fin 2048) :
    (blocksAt m c t).v (ix2 r d) = m ((c.tc : Thread nD τ).loc main_arg0) (ix2 ⟨t.val * 128 + r.val, by have h : t.val < 256 := lt_of_lt_of_eq t.isLt N_0; omega⟩ ⟨4096 + d.val, by omega⟩) := by
  change X0_3 m c t (ix2 r d) = _
  unfold X0_3 Pipeline.Window.fill
  rw [dif_pos (moved0_3 t _)]
  blk_ext [iblk, V, window_index t]

theorem gate_at (c : Dev nD) (t : Fin cfg0.N) (r : Fin 128) (d : Fin 2048) :
    (blocksAt m c t).gate (ix2 r d) = m ((c.tc : Thread nD τ).loc main_arg0) (ix2 ⟨t.val * 128 + r.val, by have h : t.val < 256 := lt_of_lt_of_eq t.isLt N_0; omega⟩ ⟨6144 + d.val, by omega⟩) := by
  change X0_4 m c t (ix2 r d) = _
  unfold X0_4 Pipeline.Window.fill
  rw [dif_pos (moved0_4 t _)]
  blk_ext [iblk, V, window_index t]

theorem cos_at (c : Dev nD) (t : Fin cfg0.N) (r : Fin 128) (d : Fin 128) :
    (blocksAt m c t).cos (ix2 r d) = if d.val < 64 then Ideal.cos (angle (t.val % 16 * 128 + r.val) d.val)
      else Ideal.cos (angle (t.val % 16 * 128 + r.val) (d.val - 64)) := by
  refine Eq.trans ?_ (cos_table m c ⟨t.val % 16 * 128 + r.val, by omega⟩ d)
  change iblk m c 5 t (ix2 r d) = _
  blk_ext [iblk, window_index t]

theorem sin_at (c : Dev nD) (t : Fin cfg0.N) (r : Fin 128) (d : Fin 128) :
    (blocksAt m c t).sin (ix2 r d) = if d.val < 64 then -Ideal.sin (angle (t.val % 16 * 128 + r.val) d.val)
      else Ideal.sin (angle (t.val % 16 * 128 + r.val) (d.val - 64)) := by
  refine Eq.trans ?_ (sin_table m c ⟨t.val % 16 * 128 + r.val, by omega⟩ d)
  change iblk m c 6 t (ix2 r d) = _
  blk_ext [iblk, window_index t]

theorem D_at (c : Dev nD) (t : Fin cfg0.N) (h : Fin 8) (i j : Fin 128) :
    (blocksAt m c t).D (ix3 h i j) = maskDecay h.val i.val j.val := by
  refine Eq.trans ?_ (mask_table m c h i j)
  change iblk m c 7 t (ix3 h i j) = _
  blk_ext [iblk, window_index t]

theorem Q_at (c : Dev nD) (t : Fin cfg0.N) (h : Fin 8) (i d : Fin 128) :
    (blocksAt m c t).Q (ix3 h i d) = queryDecay h.val i.val := by
  refine Eq.trans ?_ (query_table m c h i d)
  change iblk m c 8 t (ix3 h i d) = _
  blk_ext [iblk, window_index t]

theorem K_at (c : Dev nD) (t : Fin cfg0.N) (h : Fin 8) (i d : Fin 128) :
    (blocksAt m c t).K (ix3 h i d) = keyDecay h.val i.val := by
  refine Eq.trans ?_ (key_table m c h i d)
  change iblk m c 9 t (ix3 h i d) = _
  blk_ext [iblk, window_index t]

theorem g_at (c : Dev nD) (t : Fin cfg0.N) (h : Fin 8) :
    (blocksAt m c t).g (ix1 h) = chunkDecay h.val := by
  refine Eq.trans ?_ (chunk_table m c h)
  change iblk m c 0 t (ix1 h) = _
  blk_ext [iblk, window_index t]

end Cert.Retention
-- ==== Proof.Retention.Rows.lean ====
/-
  The reference's queries, keys and values, entry by entry: the rotary turn of a row of the input
  projection, and the same rows laid out by chunk.
-/
module

public import proofs.«01_k».proof.Proof.Gen.ReferenceIdeal.Step
public import proofs.«01_k».proof.Proof.Retention.Angles
public import Idealize.ShloMosaic.Lib.Pointwise
public import Idealize.ShloMosaic.Lib.Pipeline.Value

@[expose] public section

set_option maxRecDepth 16384

noncomputable section

namespace Cert.Retention

open Idealize.ShloMosaic Idealize.SL.Sem Cert.ReferenceIdeal Cert.ReferenceIdeal.Step Cert.ReferenceIdeal.Gen

/-- The reference's argument. -/
abbrev Input := (⟨S32768x15360, .bf16⟩ : BufTy).Contents (Elt Ideal)

/-- Head `h`'s lanes of the queries at position `p` of sequence `b`. -/
def qRow (x : Input) (b : Fin 16) (p : Fin 2048) (h : Fin 8) (d : Fin 128) : EReal :=
  x (ix2 ⟨b.val * 2048 + p.val, by omega⟩ ⟨2048 + (h.val * 128 + d.val), by omega⟩)

/-- Head `h`'s lanes of the keys at position `p` of sequence `b`. -/
def kRow (x : Input) (b : Fin 16) (p : Fin 2048) (h : Fin 8) (d : Fin 128) : EReal :=
  x (ix2 ⟨b.val * 2048 + p.val, by omega⟩ ⟨3072 + (h.val * 128 + d.val), by omega⟩)

/-- Head `h`'s lanes of the values at position `p` of sequence `b`. -/
def vRow (x : Input) (b : Fin 16) (p : Fin 2048) (h : Fin 8) (d : Fin 256) : EReal :=
  x (ix2 ⟨b.val * 2048 + p.val, by omega⟩ ⟨4096 + (h.val * 256 + d.val), by omega⟩)

/-- A row of lanes turned by the rotary angles of position `p`. -/
def turned (X : Fin 128 → EReal) (p : ℕ) (d : Fin 128) : EReal :=
  if h : d.val < 64 then X d * Ideal.cos (angle p d.val) - X ⟨64 + d.val, by omega⟩ * Ideal.sin (angle p d.val)
  else X ⟨d.val - 64, by omega⟩ * Ideal.sin (angle p (d.val - 64)) + X d * Ideal.cos (angle p (d.val - 64))

theorem cos_q (b : Fin 16) (p : Fin 2048) (h : Fin 8) (d : Fin 64) :
    K_main_v33 (F := Ideal) (ix4 b p h d) = Ideal.cos (angle p.val d.val) := by
  pointwise [K_main_v33, K_main_v28, K_main_v27, K_main_v26, K_main_v25, K_main_v24, K_main_v23, K_main_v22, K_main_v21, K_main_v20, K_main_cst_3, K_main_v19, K_main_v18, K_main_cst_2, K_main_v17, K_main_v16, K_main_v0, K_main_v30, K_main_v29]
  rfl

theorem sin_q (b : Fin 16) (p : Fin 2048) (h : Fin 8) (d : Fin 64) :
    K_main_v35 (F := Ideal) (ix4 b p h d) = Ideal.sin (angle p.val d.val) := by
  pointwise [K_main_v35, K_main_v28, K_main_v27, K_main_v26, K_main_v25, K_main_v24, K_main_v23, K_main_v22, K_main_v21, K_main_v20, K_main_cst_3, K_main_v19, K_main_v18, K_main_cst_2, K_main_v17, K_main_v16, K_main_v0, K_main_v30, K_main_v29]
  rfl

theorem sin_q2 (b : Fin 16) (p : Fin 2048) (h : Fin 8) (d : Fin 64) :
    K_main_v38 (F := Ideal) (ix4 b p h d) = Ideal.sin (angle p.val d.val) := by
  pointwise [K_main_v38, K_main_v28, K_main_v27, K_main_v26, K_main_v25, K_main_v24, K_main_v23, K_main_v22, K_main_v21, K_main_v20, K_main_cst_3, K_main_v19, K_main_v18, K_main_cst_2, K_main_v17, K_main_v16, K_main_v0, K_main_v30, K_main_v29]
  rfl

theorem cos_q2 (b : Fin 16) (p : Fin 2048) (h : Fin 8) (d : Fin 64) :
    K_main_v40 (F := Ideal) (ix4 b p h d) = Ideal.cos (angle p.val d.val) := by
  pointwise [K_main_v40, K_main_v28, K_main_v27, K_main_v26, K_main_v25, K_main_v24, K_main_v23, K_main_v22, K_main_v21, K_main_v20, K_main_cst_3, K_main_v19, K_main_v18, K_main_cst_2, K_main_v17, K_main_v16, K_main_v0, K_main_v30, K_main_v29]
  rfl

theorem cos_k (b : Fin 16) (p : Fin 2048) (h : Fin 8) (d : Fin 64) :
    K_main_v62 (F := Ideal) (ix4 b p h d) = Ideal.cos (angle p.val d.val) := by
  pointwise [K_main_v62, K_main_v59, K_main_v58, K_main_v57, K_main_v56, K_main_v55, K_main_v54, K_main_v53, K_main_v52, K_main_v51, K_main_v50, K_main_v49, K_main_cst_5, K_main_v48, K_main_v47, K_main_cst_4, K_main_v46, K_main_v45, K_main_v0]
  rfl

theorem sin_k (b : Fin 16) (p : Fin 2048) (h : Fin 8) (d : Fin 64) :
    K_main_v64 (F := Ideal) (ix4 b p h d) = Ideal.sin (angle p.val d.val) := by
  pointwise [K_main_v64, K_main_v59, K_main_v58, K_main_v57, K_main_v56, K_main_v55, K_main_v54, K_main_v53, K_main_v52, K_main_v51, K_main_v50, K_main_v49, K_main_cst_5, K_main_v48, K_main_v47, K_main_cst_4, K_main_v46, K_main_v45, K_main_v0]
  rfl

theorem sin_k2 (b : Fin 16) (p : Fin 2048) (h : Fin 8) (d : Fin 64) :
    K_main_v67 (F := Ideal) (ix4 b p h d) = Ideal.sin (angle p.val d.val) := by
  pointwise [K_main_v67, K_main_v59, K_main_v58, K_main_v57, K_main_v56, K_main_v55, K_main_v54, K_main_v53, K_main_v52, K_main_v51, K_main_v50, K_main_v49, K_main_cst_5, K_main_v48, K_main_v47, K_main_cst_4, K_main_v46, K_main_v45, K_main_v0]
  rfl

theorem cos_k2 (b : Fin 16) (p : Fin 2048) (h : Fin 8) (d : Fin 64) :
    K_main_v69 (F := Ideal) (ix4 b p h d) = Ideal.cos (angle p.val d.val) := by
  pointwise [K_main_v69, K_main_v59, K_main_v58, K_main_v57, K_main_v56, K_main_v55, K_main_v54, K_main_v53, K_main_v52, K_main_v51, K_main_v50, K_main_v49, K_main_cst_5, K_main_v48, K_main_v47, K_main_cst_4, K_main_v46, K_main_v45, K_main_v0]
  rfl

theorem q_split (x : Input) (b : Fin 16) (p : Fin 2048) (h : Fin 8) (d : Fin 128) :
    A_main_v15 x (ix4 b p h d) = qRow x b p h d := by
  pointwise [A_main_v15, A_main_v2, A_main_v1]
  rfl

theorem q_low (x : Input) (b : Fin 16) (p : Fin 2048) (h : Fin 8) (d : Fin 64) :
    A_main_v37 x (ix4 b p h d) = qRow x b p h ⟨d.val, by omega⟩ * Ideal.cos (angle p.val d.val)
      - qRow x b p h ⟨64 + d.val, by omega⟩ * Ideal.sin (angle p.val d.val) := by
  pointwise [A_main_v37, A_main_v36, A_main_v34, A_main_v32, A_main_v31]
  rw [q_split, q_split, cos_q, sin_q]

theorem q_high (x : Input) (b : Fin 16) (p : Fin 2048) (h : Fin 8) (d : Fin 64) :
    A_main_v42 x (ix4 b p h d) = qRow x b p h ⟨d.val, by omega⟩ * Ideal.sin (angle p.val d.val)
      + qRow x b p h ⟨64 + d.val, by omega⟩ * Ideal.cos (angle p.val d.val) := by
  pointwise [A_main_v42, A_main_v41, A_main_v39, A_main_v32, A_main_v31]
  rw [q_split, q_split, sin_q2, cos_q2]

theorem q_turned (x : Input) (b : Fin 16) (p : Fin 2048) (h : Fin 8) (d : Fin 128) :
    A_main_v43 x (ix4 b p h d) = turned (qRow x b p h) p.val d := by
  pointwise [A_main_v43]
  unfold turned
  split
  · rw [q_low]
  · rename_i hd
    rw [q_high]
    have e : (⟨64 + (d.val - 64), by omega⟩ : Fin 128) = d := Fin.ext (by show 64 + (d.val - 64) = d.val; omega)
    simp only [e]

theorem k_split (x : Input) (b : Fin 16) (p : Fin 2048) (h : Fin 8) (d : Fin 128) :
    A_main_v44 x (ix4 b p h d) = kRow x b p h d := by
  pointwise [A_main_v44, A_main_v4, A_main_v3]
  rfl

theorem k_low (x : Input) (b : Fin 16) (p : Fin 2048) (h : Fin 8) (d : Fin 64) :
    A_main_v66 x (ix4 b p h d) = kRow x b p h ⟨d.val, by omega⟩ * Ideal.cos (angle p.val d.val)
      - kRow x b p h ⟨64 + d.val, by omega⟩ * Ideal.sin (angle p.val d.val) := by
  pointwise [A_main_v66, A_main_v63, A_main_v65, A_main_v60, A_main_v61]
  rw [k_split, k_split, cos_k, sin_k]

theorem k_high (x : Input) (b : Fin 16) (p : Fin 2048) (h : Fin 8) (d : Fin 64) :
    A_main_v71 x (ix4 b p h d) = kRow x b p h ⟨d.val, by omega⟩ * Ideal.sin (angle p.val d.val)
      + kRow x b p h ⟨64 + d.val, by omega⟩ * Ideal.cos (angle p.val d.val) := by
  pointwise [A_main_v71, A_main_v68, A_main_v70, A_main_v60, A_main_v61]
  rw [k_split, k_split, sin_k2, cos_k2]

theorem k_turned (x : Input) (b : Fin 16) (p : Fin 2048) (h : Fin 8) (d : Fin 128) :
    A_main_v72 x (ix4 b p h d) = turned (kRow x b p h) p.val d := by
  pointwise [A_main_v72]
  unfold turned
  split
  · rw [k_low]
  · rename_i hd
    rw [k_high]
    have e : (⟨64 + (d.val - 64), by omega⟩ : Fin 128) = d := Fin.ext (by show 64 + (d.val - 64) = d.val; omega)
    simp only [e]

theorem k_scaled (x : Input) (b : Fin 16) (p : Fin 2048) (h : Fin 8) (d : Fin 128) :
    A_main_v74 x (ix4 b p h d) = turned (kRow x b p h) p.val d * Ideal.ofBits .f32 1035273459#32 := by
  pointwise [A_main_v74, K_main_v73, K_main_cst_6]
  rw [k_turned]

/-- Rows laid out by chunk. -/
theorem by_chunk (y : (⟨S16x2048x8x128, .f32⟩ : BufTy).Contents (Elt Ideal)) (b n : Fin 16) (i : Fin 128) (h : Fin 8) (d : Fin 128) :
    shapeCast S16x16x128x8x128 y shapeCasts_S16x2048x8x128_S16x16x128x8x128 (ix5 b n i h d)
      = y (ix4 b ⟨n.val * 128 + i.val, by omega⟩ h d) := by
  refine shapeCast_apply _ _ _ _ ?_
  have e4 := rowMajor_val4 (d := ![16, 2048, 8, 128]) (ix4 b (⟨n.val * 128 + i.val, by omega⟩ : Fin 2048) h d) 2097152 1024 128
    (by decide) (by decide) (by decide)
  have e5 := rowMajor_val5 (d := ![16, 16, 128, 8, 128]) (ix5 b n i h d) 2097152 131072 1024 128 (by decide) (by decide) (by decide) (by decide)
  refine e4.trans (Eq.trans ?_ e5.symm)
  show b.val * 2097152 + (n.val * 128 + i.val) * 1024 + h.val * 128 + d.val
    = b.val * 2097152 + n.val * 131072 + i.val * 1024 + h.val * 128 + d.val
  omega

theorem chunk_first (y : (⟨S16x16x128x8x128, .f32⟩ : BufTy).Contents (Elt Ideal)) (b n : Fin 16) (i : Fin 128) (h : Fin 8) (d : Fin 128) :
    transpose S16x16x128x8x128 [1, 0, 2, 3, 4] y transposes_S16x16x128x8x128_S16x16x128x8x128_1_0_2_3_4 (ix5 n b i h d)
      = y (ix5 b n i h d) := by
  refine transpose_apply _ _ _ _ _ (fun a => ?_)
  match a with
  | ⟨0, _⟩ => rfl
  | ⟨1, _⟩ => rfl
  | ⟨2, _⟩ => rfl
  | ⟨3, _⟩ => rfl
  | ⟨4, _⟩ => rfl

theorem q_chunk (x : Input) (n b : Fin 16) (i : Fin 128) (h : Fin 8) (d : Fin 128) :
    A_main_v77 x (ix5 n b i h d) = turned (qRow x b ⟨n.val * 128 + i.val, by omega⟩ h) (n.val * 128 + i.val) d :=
  (chunk_first (A_main_v76 x) b n i h d).trans
    ((by_chunk (A_main_v43 x) b n i h d).trans (q_turned x b ⟨n.val * 128 + i.val, by omega⟩ h d))

theorem k_chunk (x : Input) (n b : Fin 16) (i : Fin 128) (h : Fin 8) (d : Fin 128) :
    A_main_v79 x (ix5 n b i h d)
      = turned (kRow x b ⟨n.val * 128 + i.val, by omega⟩ h) (n.val * 128 + i.val) d * Ideal.ofBits .f32 1035273459#32 :=
  (chunk_first (A_main_v78 x) b n i h d).trans
    ((by_chunk (A_main_v74 x) b n i h d).trans (k_scaled x b ⟨n.val * 128 + i.val, by omega⟩ h d))

theorem v_chunk (x : Input) (n b : Fin 16) (i : Fin 128) (h : Fin 8) (d : Fin 256) :
    A_main_v81 x (ix5 n b i h d) = vRow x b ⟨n.val * 128 + i.val, by omega⟩ h d := by
  pointwise [A_main_v81, A_main_v80, A_main_v75, A_main_v6, A_main_v5]
  unfold vRow
  refine congrArg x (congrArg₂ ix2 (Fin.ext ?_) rfl)
  show b.val * 2048 + n.val * 128 + i.val = b.val * 2048 + (n.val * 128 + i.val)
  omega

end Cert.Retention
-- ==== Proof.Retention.Trip.lean ====
/-
  One trip of the reference's loop over the chunks, entry by entry: the slices of the queries, keys
  and values, the decays, the new state, the chunk's mixed values, and where they are put.
-/
module

public import proofs.«01_k».proof.Proof.Gen.ReferenceIdeal.Step
public import proofs.«01_k».proof.Proof.Retention.Angles
public import Idealize.ShloMosaic.Lib.Pointwise
public import Idealize.ShloMosaic.Lib.Pipeline.Value

@[expose] public section

set_option maxRecDepth 16384

noncomputable section

namespace Cert.Retention

open Idealize.ShloMosaic Idealize.SL.Sem Cert.ReferenceIdeal Cert.ReferenceIdeal.Step Cert.ReferenceIdeal.Gen

/-- The offsets at which trip `j` slices. -/
def offsets (j : ℕ) (k : Fin 5) : ℤ :=
  BitVec.toInt
                (![select (cmpi CmpIPredicate.slt (constantI S_ 32 (BitVec.ofNat 32 j)) (constantI S_ 32 0#32))
                      (addi (id (constantI S_ 32 (BitVec.ofNat 32 j))) (constantI S_ 32 16#32))
                      (constantI S_ 32 (BitVec.ofNat 32 j)),
                    constantI S_ 32 0#32, constantI S_ 32 0#32, constantI S_ 32 0#32, constantI S_ 32 0#32]
                  k (Shape.Idx.first h_S_))

theorem offsets_eq : ∀ (j : Fin 16) (a : Fin 5), offsets j.val a = ((if a = 0 then j.val else 0 : ℕ) : ℤ) := by
  decide

theorem offset128 (j : Fin 16) (a : Fin 5) (ht) :
    Host.clampedStart S16x16x128x8x128 S1x16x128x8x128 ht (offsets j.val) a = if a = 0 then j.val else 0 := by
  refine Host.clampedStart_of_le ht _ _ _ (offsets_eq j a) ?_
  revert ht
  revert j a
  decide

theorem offset256 (j : Fin 16) (a : Fin 5) (ht) :
    Host.clampedStart S16x16x128x8x256 S1x16x128x8x256 ht (offsets j.val) a = if a = 0 then j.val else 0 := by
  refine Host.clampedStart_of_le ht _ _ _ (offsets_eq j a) ?_
  revert ht
  revert j a
  decide

theorem q_slice (j : Fin 16) (s : State Ideal) (b : Fin 16) (i : Fin 128) (h : Fin 8) (d : Fin 128) :
    b13 j.val s (ix4 b i h d) = s.main_v83_0 (ix5 j b i h d) := by
  pointwise [b0, b1, b2, b3, b4, b5, b6, b7, b8, b9, b10, b11, b12, b13]
  refine congrArg s.main_v83_0 (funext fun a => Fin.ext ?_)
  match a with
  | ⟨0, _⟩ => exact offset128 j 0 rfl
  | ⟨1, _⟩ => exact (congrArg (· + b.val) (offset128 j 1 rfl)).trans (Nat.zero_add _)
  | ⟨2, _⟩ => exact (congrArg (· + i.val) (offset128 j 2 rfl)).trans (Nat.zero_add _)
  | ⟨3, _⟩ => exact (congrArg (· + h.val) (offset128 j 3 rfl)).trans (Nat.zero_add _)
  | ⟨4, _⟩ => exact (congrArg (· + d.val) (offset128 j 4 rfl)).trans (Nat.zero_add _)

theorem k_slice (j : Fin 16) (s : State Ideal) (b : Fin 16) (i : Fin 128) (h : Fin 8) (d : Fin 128) :
    b25 j.val s (ix4 b i h d) = s.main_v83_1 (ix5 j b i h d) := by
  pointwise [b14, b15, b16, b17, b18, b19, b20, b21, b22, b23, b24, b25, b0, b1, b2]
  refine congrArg s.main_v83_1 (funext fun a => Fin.ext ?_)
  match a with
  | ⟨0, _⟩ => exact offset128 j 0 rfl
  | ⟨1, _⟩ => exact (congrArg (· + b.val) (offset128 j 1 rfl)).trans (Nat.zero_add _)
  | ⟨2, _⟩ => exact (congrArg (· + i.val) (offset128 j 2 rfl)).trans (Nat.zero_add _)
  | ⟨3, _⟩ => exact (congrArg (· + h.val) (offset128 j 3 rfl)).trans (Nat.zero_add _)
  | ⟨4, _⟩ => exact (congrArg (· + d.val) (offset128 j 4 rfl)).trans (Nat.zero_add _)

theorem v_slice (j : Fin 16) (s : State Ideal) (b : Fin 16) (i : Fin 128) (h : Fin 8) (d : Fin 256) :
    b37 j.val s (ix4 b i h d) = s.main_v83_2 (ix5 j b i h d) := by
  pointwise [b26, b27, b28, b29, b30, b31, b32, b33, b34, b35, b36, b37, b0, b1, b2]
  refine congrArg s.main_v83_2 (funext fun a => Fin.ext ?_)
  match a with
  | ⟨0, _⟩ => exact offset256 j 0 rfl
  | ⟨1, _⟩ => exact (congrArg (· + b.val) (offset256 j 1 rfl)).trans (Nat.zero_add _)
  | ⟨2, _⟩ => exact (congrArg (· + i.val) (offset256 j 2 rfl)).trans (Nat.zero_add _)
  | ⟨3, _⟩ => exact (congrArg (· + h.val) (offset256 j 3 rfl)).trans (Nat.zero_add _)
  | ⟨4, _⟩ => exact (congrArg (· + d.val) (offset256 j 4 rfl)).trans (Nat.zero_add _)

theorem log_decay (h : Fin 8) : K_main_v14 (F := Ideal) (ix1 h) = logDecay h.val := by
  pointwise [K_main_v14, K_main_v13, K_main_v12, K_main_v11, K_main_v10, K_main_v9, K_main_v8, K_main_cst_1, K_main_cst_0]
  rfl

theorem mask_read (j : ℕ) (s : State Ideal) (h : Fin 8) (i k : Fin 128) :
    b60 j s (ix3 h i k) = maskDecay h.val i.val k.val := by
  pointwise [b38, b39, b40, b41, b42, b43, b44, b45, b46, b47, b48, b49, b50, b51, b52, b53, b54, b55, b56, b57, b58, b59, b60]
  rw [log_decay]
  rfl

/-- The state after the trip. -/
theorem state_read (j : Fin 16) (s : State Ideal) (b : Fin 16) (h : Fin 8) (d : Fin 128) (e : Fin 256) :
    b102 j.val s (ix4 b h d e) = chunkDecay h.val * s.main_v83_6 (ix4 b h d e)
      + ∑ r : Fin 128, s.main_v83_1 (ix5 j b r h d) * keyDecay h.val r.val * s.main_v83_2 (ix5 j b r h e) := by
  pointwise [b82, b83, b84, b85, b86, b87, b88, b89, b90, b91, b92, b93, b94, b95, b96, b97, b98, b99, b100, b101, b102, b38]
  simp only [log_decay, k_slice, v_slice]
  rfl

/-- The chunk's mixed values. -/
theorem mixed_read (j : Fin 16) (s : State Ideal) (b : Fin 16) (i : Fin 128) (h : Fin 8) (e : Fin 256) :
    b81 j.val s (ix4 b i h e)
      = ∑ r : Fin 128, s.main_v83_2 (ix5 j b r h e)
          * ((∑ d : Fin 128, s.main_v83_0 (ix5 j b i h d) * s.main_v83_1 (ix5 j b r h d)) * maskDecay h.val i.val r.val)
        + (∑ d : Fin 128, s.main_v83_6 (ix4 b h d e) * s.main_v83_0 (ix5 j b i h d)) * queryDecay h.val i.val := by
  pointwise [b61, b62, b63, b64, b65, b66, b67, b68, b69, b70, b71, b72, b73, b74, b75, b76, b77, b78, b79, b80, b81, b38]
  simp only [log_decay, q_slice, k_slice, v_slice, mask_read]
  rfl

/-- The mixed values are put at their chunk; the other chunks stand. -/
theorem put_read (j : Fin 16) (s : State Ideal) (n b : Fin 16) (i : Fin 128) (h : Fin 8) (e : Fin 256) :
    b110 j.val s (ix5 n b i h e) = if n = j then b81 j.val s (ix4 b i h e) else s.main_v83_7 (ix5 n b i h e) := by
  pointwise [b103, b104, b105, b106, b107, b108, b109, b110]
  have key : ∀ n j : Fin 16, IntOp.cmpi CmpIPredicate.eq (BitVec.ofNat 32 n.val) (BitVec.ofNat 32 j.val) = if n = j then 1#1 else 0#1 := by
    decide
  show Scalar.select (IntOp.cmpi CmpIPredicate.eq (BitVec.ofNat 32 n.val) (BitVec.ofNat 32 j.val)) _ _ = _
  rw [key]
  split <;> rfl

end Cert.Retention
-- ==== Proof.Retention.Decay.lean ====
/-
  The decay of a query towards the carried state is a real number or zero, so it may be taken out of
  a sum, whatever the summands are.
-/
module

public import proofs.«01_k».proof.Proof.Retention.Angles

@[expose] public section

noncomputable section

namespace Cert.Retention

open Idealize.ShloMosaic
open scoped BigOperators

theorem num_coe (n : ℕ) : num n = (((BitVec.ofNat 32 n).toInt : ℝ) : EReal) := rfl

theorem num_nonneg (i : Fin 128) : (0 : ℝ) ≤ ((BitVec.ofNat 32 i.val).toInt : ℝ) := by
  have h : ∀ i : Fin 128, 0 ≤ (BitVec.ofNat 32 i.val).toInt := by decide
  exact_mod_cast h i

theorem two_coe : Ideal.ofBits .f32 1073741824#32 = ((2 : ℝ) : EReal) := by
  simp [Ideal.ofBits, Ideal.ieee, -EReal.coe_mul]; norm_num

theorem neg_five_coe : Ideal.ofBits .f32 3231711232#32 = ((-5 : ℝ) : EReal) := by
  simp [Ideal.ofBits, Ideal.ieee, -EReal.coe_mul, -EReal.coe_neg]; norm_num

/-- A head's log decay is a real number or minus infinity. -/
theorem logDecay_cases (h : ℕ) : logDecay h = ⊥ ∨ ∃ r : ℝ, logDecay h = (r : EReal) := by
  unfold logDecay
  rw [two_coe, neg_five_coe, num_coe, ← EReal.coe_sub]
  show Ideal.log (1 + -((Real.rpow 2 _ : ℝ) : EReal)) = ⊥ ∨ ∃ r : ℝ, Ideal.log (1 + -((Real.rpow 2 _ : ℝ) : EReal)) = (r : EReal)
  rw [← EReal.coe_neg, ← EReal.coe_one, ← EReal.coe_add]
  generalize (1 + -Real.rpow 2 _ : ℝ) = z
  show (if z ≤ 0 then (⊥ : EReal) else ((Real.log z : ℝ) : EReal)) = ⊥ ∨ ∃ r : ℝ, (if z ≤ 0 then (⊥ : EReal) else ((Real.log z : ℝ) : EReal)) = (r : EReal)
  by_cases hz : z ≤ 0
  · left; rw [if_pos hz]
  · right; exact ⟨_, if_neg hz⟩

/-- The decay of a query is a nonnegative real number. -/
theorem queryDecay_real (h : ℕ) (i : Fin 128) : 0 ≤ queryDecay h i.val ∧ queryDecay h i.val ≠ ⊤ := by
  have e : num i.val + 1 = ((((BitVec.ofNat 32 i.val).toInt : ℝ) + 1 : ℝ) : EReal) := by
    rw [num_coe, EReal.coe_add, EReal.coe_one]
  have hp : (0 : ℝ) < ((BitVec.ofNat 32 i.val).toInt : ℝ) + 1 := by have := num_nonneg i; linarith
  unfold queryDecay
  rw [e]
  rcases logDecay_cases h with hl | ⟨r, hl⟩ <;> rw [hl]
  · rw [EReal.bot_mul_coe_of_pos hp, Ideal.exp_bot]
    exact ⟨le_rfl, EReal.zero_ne_top⟩
  · rw [← EReal.coe_mul, Ideal.exp_coe]
    exact ⟨EReal.coe_nonneg.mpr (Real.exp_pos _).le, EReal.coe_ne_top _⟩

/-- A nonnegative real factor may be taken into a sum. -/
theorem sum_scaled {n : ℕ} (f : Fin n → EReal) (c : EReal) (h0 : 0 ≤ c) (ht : c ≠ ⊤) : (∑ d, f d) * c = ∑ d, f d * c := by
  have key : ∀ s : Finset (Fin n), (∑ d ∈ s, f d) * c = ∑ d ∈ s, f d * c := by
    intro s
    induction s using Finset.induction_on with
    | empty => simp
    | insert a s ha ih => rw [Finset.sum_insert ha, Finset.sum_insert ha, EReal.right_distrib_of_nonneg_of_ne_top h0 ht, ih]
  exact key Finset.univ

end Cert.Retention
-- ==== Proof.Retention.Match.lean ====
/-
  One chunk of one sequence, both ways: what the kernel's head makes of the blocks it reads is what
  one trip of the reference makes of the same rows.
-/
module

public import proofs.«01_k».proof.Proof.Retention.Blocks
public import proofs.«01_k».proof.Proof.Retention.Rows
public import proofs.«01_k».proof.Proof.Retention.Trip
public import proofs.«01_k».proof.Proof.Retention.Decay

@[expose] public section

set_option maxRecDepth 16384

noncomputable section

namespace Cert.Retention

open Idealize.ShloMosaic Idealize.SL.Sem
open scoped BigOperators

/-- The blocks `X` are those of chunk `n` of sequence `b` of the argument `x`. -/
structure Reads (X : Blocks Ideal) (x : Input) (b n : Fin 16) : Prop where
  q : ∀ (r : Fin 128) (d : Fin 1024), X.q (ix2 r d)
    = x (ix2 ⟨b.val * 2048 + (n.val * 128 + r.val), by omega⟩ ⟨2048 + d.val, by omega⟩)
  k : ∀ (r : Fin 128) (d : Fin 1024), X.k (ix2 r d)
    = x (ix2 ⟨b.val * 2048 + (n.val * 128 + r.val), by omega⟩ ⟨3072 + d.val, by omega⟩)
  v : ∀ (r : Fin 128) (d : Fin 2048), X.v (ix2 r d)
    = x (ix2 ⟨b.val * 2048 + (n.val * 128 + r.val), by omega⟩ ⟨4096 + d.val, by omega⟩)
  gate : ∀ (r : Fin 128) (d : Fin 2048), X.gate (ix2 r d)
    = x (ix2 ⟨b.val * 2048 + (n.val * 128 + r.val), by omega⟩ ⟨6144 + d.val, by omega⟩)
  cos : ∀ (r d : Fin 128), X.cos (ix2 r d) = if d.val < 64 then Ideal.cos (angle (n.val * 128 + r.val) d.val)
    else Ideal.cos (angle (n.val * 128 + r.val) (d.val - 64))
  sin : ∀ (r d : Fin 128), X.sin (ix2 r d) = if d.val < 64 then -Ideal.sin (angle (n.val * 128 + r.val) d.val)
    else Ideal.sin (angle (n.val * 128 + r.val) (d.val - 64))
  D : ∀ (h : Fin 8) (i j : Fin 128), X.D (ix3 h i j) = maskDecay h.val i.val j.val
  Q : ∀ (h : Fin 8) (i d : Fin 128), X.Q (ix3 h i d) = queryDecay h.val i.val
  K : ∀ (h : Fin 8) (i d : Fin 128), X.K (ix3 h i d) = keyDecay h.val i.val
  g : ∀ h : Fin 8, X.g (ix1 h) = chunkDecay h.val

/-! ## The parts a head reads -/

theorem ld_lane128 (A : Vec Ideal Cert.KernelIdeal.S128x1024 .bf16) (h : Fin 8) (r d : Fin 128) :
    View.ld A (Rect.unit ![0, h.val * 128] ![128, 128] (lane128 h)) (ix2 r d) = A (ix2 r ⟨h.val * 128 + d.val, by omega⟩) := by
  refine congrArg A (funext fun a => Fin.ext ?_)
  match a with
  | ⟨0, _⟩ => show 0 + 1 * r.val = r.val; omega
  | ⟨1, _⟩ => show h.val * 128 + 1 * d.val = h.val * 128 + d.val; omega

theorem ld_lane256 (A : Vec Ideal Cert.KernelIdeal.S128x2048 .bf16) (h : Fin 8) (r : Fin 128) (e : Fin 256) :
    View.ld A (Rect.unit ![0, h.val * 256] ![128, 256] (lane256 h)) (ix2 r e) = A (ix2 r ⟨h.val * 256 + e.val, by omega⟩) := by
  refine congrArg A (funext fun a => Fin.ext ?_)
  match a with
  | ⟨0, _⟩ => show 0 + 1 * r.val = r.val; omega
  | ⟨1, _⟩ => show h.val * 256 + 1 * e.val = h.val * 256 + e.val; omega

theorem ld_slab128 (A : Vec Ideal Cert.KernelIdeal.S8x128x128 .f32) (h : Fin 8) (r d : Fin 128) :
    View.ld A (Rect.unit ![h.val, 0, 0] ![1, 128, 128] (slab128 h)) (ix3 0 r d) = A (ix3 h r d) := by
  refine congrArg A (funext fun a => Fin.ext ?_)
  match a with
  | ⟨0, _⟩ => show h.val + 1 * 0 = h.val; omega
  | ⟨1, _⟩ => show 0 + 1 * r.val = r.val; omega
  | ⟨2, _⟩ => show 0 + 1 * d.val = d.val; omega

theorem ld_slab256 (A : Vec Ideal Cert.KernelIdeal.S8x128x256 .f32) (h : Fin 8) (d : Fin 128) (e : Fin 256) :
    View.ld A (Rect.unit ![h.val, 0, 0] ![1, 128, 256] (slab256 h)) (ix3 0 d e) = A (ix3 h d e) := by
  refine congrArg A (funext fun a => Fin.ext ?_)
  match a with
  | ⟨0, _⟩ => show h.val + 1 * 0 = h.val; omega
  | ⟨1, _⟩ => show 0 + 1 * d.val = d.val; omega
  | ⟨2, _⟩ => show 0 + 1 * e.val = e.val; omega

theorem ld_one8 (A : Vec Ideal Cert.KernelIdeal.S8 .f32) (h : Fin 8) :
    View.ld A (Rect.unit ![h.val] ![1] (one8 h)) (Shape.Idx.first (s := Cert.KernelIdeal.S1) (by decide)) = A (ix1 h) := by
  refine congrArg A (funext fun a => Fin.ext ?_)
  match a with
  | ⟨0, _⟩ => show h.val + 1 * 0 = h.val; omega

/-! ## Turned queries and keys -/

/-- The kernel's turn with the signed sine table is the rotary turn. -/
theorem turn_eq (C S : Vec Ideal Cert.KernelIdeal.S128x128 .f32) (w : Vec Ideal Cert.KernelIdeal.S128x128 .bf16) (R : Fin 128 → EReal)
    (p : ℕ) (r d : Fin 128)
    (hC : C (ix2 r d) = if d.val < 64 then Ideal.cos (angle p d.val) else Ideal.cos (angle p (d.val - 64)))
    (hS : S (ix2 r d) = if d.val < 64 then -Ideal.sin (angle p d.val) else Ideal.sin (angle p (d.val - 64)))
    (hw : ∀ d, w (ix2 r d) = R d) : turn C S w (ix2 r d) = turned R p d := by
  rw [turn_apply, hC, hS, hw, hw]
  unfold turned
  by_cases hd : d.val < 64
  · rw [if_pos hd, if_pos hd, dif_pos hd]
    have e : (⟨(d.val + 64) % 128, Nat.mod_lt _ (by decide)⟩ : Fin 128) = ⟨64 + d.val, by omega⟩ :=
      Fin.ext (by simp only []; omega)
    rw [e, mul_neg, sub_eq_add_neg]
  · rw [if_neg hd, if_neg hd, dif_neg hd]
    have e : (⟨(d.val + 64) % 128, Nat.mod_lt _ (by decide)⟩ : Fin 128) = ⟨d.val - 64, by omega⟩ :=
      Fin.ext (by simp only []; omega)
    rw [e, add_comm]

variable {X : Blocks Ideal} {x : Input} {b n : Fin 16}

theorem headQ_eq (hX : Reads X x b n) (h : Fin 8) (r d : Fin 128) :
    headQ X h (ix2 r d) = turned (qRow x b ⟨n.val * 128 + r.val, by omega⟩ h) (n.val * 128 + r.val) d := by
  refine turn_eq _ _ _ _ _ r d (hX.cos r d) (hX.sin r d) fun d => ?_
  rw [ld_lane128, hX.q]
  rfl

theorem headK_eq (hX : Reads X x b n) (h : Fin 8) (r d : Fin 128) :
    headK X h (ix2 r d) = turned (kRow x b ⟨n.val * 128 + r.val, by omega⟩ h) (n.val * 128 + r.val) d
      * Ideal.ofBits .f32 1035273459#32 := by
  unfold headK
  rw [keyed_apply]
  refine congrArg (· * Ideal.ofBits .f32 1035273459#32) ?_
  refine turn_eq _ _ _ _ _ r d (hX.cos r d) (hX.sin r d) fun d => ?_
  rw [ld_lane128, hX.k]
  rfl

/-! ## One trip -/

/-- The reference's state `s` keeps the queries, keys and values of `x`. -/
structure Keeps (s : Cert.ReferenceIdeal.Step.State Ideal) (x : Input) : Prop where
  q : s.main_v83_0 = Cert.ReferenceIdeal.Step.A_main_v77 x
  k : s.main_v83_1 = Cert.ReferenceIdeal.Step.A_main_v79 x
  v : s.main_v83_2 = Cert.ReferenceIdeal.Step.A_main_v81 x

variable {s : Cert.ReferenceIdeal.Step.State Ideal} {St : Vec Ideal Cert.KernelIdeal.S8x128x256 .f32}

/-- The state handed on is the trip's. -/
theorem next_eq (hX : Reads X x b n) (hs : Keeps s x)
    (hSt : ∀ h d e, St (ix3 h d e) = s.main_v83_6 (ix4 b h d e)) (h : Fin 8) (d : Fin 128) (e : Fin 256) :
    nextState X St (ix3 h d e) = Cert.ReferenceIdeal.Step.b102 n.val s (ix4 b h d e) := by
  rw [state_read]
  show headState X St h (ix3 0 d e) = _
  unfold headState
  rw [handed_apply, ld_one8, ld_slab256, hX.g, hSt]
  refine congrArg _ (Finset.sum_congr rfl fun r _ => ?_)
  rw [headK_eq hX, ld_slab128, ld_lane256, hX.K, hX.v, hs.k, hs.v, k_chunk, v_chunk]
  rfl

/-- The mixed values are the trip's. -/
theorem mixed_eq (hX : Reads X x b n) (hs : Keeps s x)
    (hSt : ∀ h d e, St (ix3 h d e) = s.main_v83_6 (ix4 b h d e)) (h : Fin 8) (i : Fin 128) (e : Fin 256) :
    headMixed X St h (ix2 i e) = Cert.ReferenceIdeal.Step.b81 n.val s (ix4 b i h e) := by
  rw [mixed_read]
  unfold headMixed
  rw [mixed_apply]
  refine congrArg₂ (· + ·) (Finset.sum_congr rfl fun r _ => ?_) ?_
  · rw [ld_slab128, ld_lane256, hX.D, hX.v, hs.q, hs.k, hs.v, v_chunk, mul_comm]
    refine congrArg₂ (· * ·) rfl (congrArg (· * _) (Finset.sum_congr rfl fun d _ => ?_))
    rw [headQ_eq hX, headK_eq hX, q_chunk, k_chunk]
  · rw [sum_scaled _ _ (queryDecay_real h.val i).1 (queryDecay_real h.val i).2]
    refine Finset.sum_congr rfl fun d _ => ?_
    rw [ld_slab128, ld_slab256, hX.Q, hSt, headQ_eq hX, hs.q, q_chunk]
    rw [mul_comm (s.main_v83_6 _), mul_assoc, mul_assoc]
    exact congrArg _ (mul_comm _ _)

end Cert.Retention
-- ==== Proof.Retention.Out.lean ====
/-
  A head's output row: the mixed values with their mean taken off, divided by their deviation, and
  multiplied by the gate. The kernel's output block and the reference's result are both made of it.
-/
module

public import proofs.«01_k».proof.Proof.Retention.Match

@[expose] public section

set_option maxRecDepth 16384

noncomputable section

namespace Cert.Retention

open Idealize.ShloMosaic Idealize.SL.Sem
open scoped BigOperators

/-- The mean of a row. -/
def rowMean (O : Fin 256 → EReal) : EReal := Ideal.div (∑ y, O y) (Ideal.ofBits .f32 1132462080#32)

/-- A row normalized and gated by `g`, at lane `y`. -/
def gatedRow (O : Fin 256 → EReal) (g : EReal) (y : Fin 256) : EReal :=
  (O y - rowMean O) * Ideal.rsqrt (rowMean (fun z => (O z - rowMean O) * (O z - rowMean O)) + Ideal.ofBits .f32 897988541#32)
    * (g * Ideal.logistic g)

theorem headOut_row (X : Blocks Ideal) (St : Vec Ideal Cert.KernelIdeal.S8x128x256 .f32) (h : Fin 8) (i : Fin 128) (y : Fin 256) :
    headOut X St h (ix2 i y) = gatedRow (fun z => headMixed X St h (ix2 i z)) (X.gate (ix2 i ⟨h.val * 256 + y.val, by omega⟩)) y := by
  unfold headOut
  rw [gated_apply, ld_lane256, meaned_apply]
  unfold gatedRow rowMean
  simp only [centred_apply, meaned_apply, mulf_apply]
  rfl

theorem final_row (s : Cert.ReferenceIdeal.Step.State Ideal) (x : Input) (r : Fin 32768) (e : Fin 2048) :
    Cert.ReferenceIdeal.Step.R_main_v109 s x (ix2 r e)
      = gatedRow (fun y => s.main_v83_7 (ix5 ⟨r.val % 2048 / 128, by omega⟩ ⟨r.val / 2048, by omega⟩ ⟨r.val % 2048 % 128, by omega⟩
          ⟨e.val / 256, by omega⟩ y)) (x (ix2 r ⟨6144 + e.val, by omega⟩)) ⟨e.val % 256, by omega⟩ := by
  pointwise [Cert.ReferenceIdeal.Step.R_main_v109]
  rfl

variable {X : Blocks Ideal} {x : Input} {b n : Fin 16}
variable {s f : Cert.ReferenceIdeal.Step.State Ideal} {St : Vec Ideal Cert.KernelIdeal.S8x128x256 .f32}

/-- The output block is the reference's rows of the chunk. -/
theorem out_eq (hX : Reads X x b n) (hs : Keeps s x)
    (hSt : ∀ h d e, St (ix3 h d e) = s.main_v83_6 (ix4 b h d e))
    (hf : ∀ i h e, f.main_v83_7 (ix5 n b i h e) = Cert.ReferenceIdeal.Step.b81 n.val s (ix4 b i h e))
    (i : Fin 128) (e : Fin 2048) :
    outBlock X St (ix2 i e)
      = Cert.ReferenceIdeal.Step.R_main_v109 f x (ix2 ⟨b.val * 2048 + (n.val * 128 + i.val), by omega⟩ e) := by
  rw [final_row]
  show headOut X St ⟨e.val / 256, _⟩ (ix2 i ⟨e.val % 256, _⟩) = _
  rw [headOut_row, hX.gate]
  have e1 : (⟨(b.val * 2048 + (n.val * 128 + i.val)) % 2048 / 128, by omega⟩ : Fin 16) = n := Fin.ext (by simp only []; omega)
  have e2 : (⟨(b.val * 2048 + (n.val * 128 + i.val)) / 2048, by omega⟩ : Fin 16) = b := Fin.ext (by simp only []; omega)
  have e3 : (⟨(b.val * 2048 + (n.val * 128 + i.val)) % 2048 % 128, by omega⟩ : Fin 128) = i := Fin.ext (by simp only []; omega)
  have e4 : (⟨6144 + (e.val / 256 * 256 + e.val % 256), by omega⟩ : Fin 15360) = ⟨6144 + e.val, by omega⟩ :=
    Fin.ext (by simp only []; omega)
  simp only [e1, e2, e3, e4, hf, mixed_eq hX hs hSt]

end Cert.Retention
-- ==== Proof.Retention.Fold.lean ====
/-
  The chunks of a sequence in order: the state carried by the kernel after a chunk is the state of
  the reference after the same trip, and so the two results agree.
-/
module

public import proofs.«01_k».proof.Proof.Retention.CaseA
public import proofs.«01_k».proof.Proof.Retention.CaseB
public import proofs.«01_k».proof.Proof.Retention.CaseC
public import proofs.«01_k».proof.Proof.Retention.Read
public import proofs.«01_k».proof.Proof.Retention.Out

@[expose] public section

set_option maxRecDepth 16384

noncomputable section

namespace Cert.Retention

open Idealize.ShloMosaic Idealize.SL.Sem Cert.KernelIdeal Cert.KernelIdeal.Gen Cert.KernelIdeal.Value

/-! ## The reference's trips -/

/-- The reference's state after `n` trips. -/
def trips (x : Input) : ℕ → Cert.ReferenceIdeal.Step.State Ideal
  | 0 => Cert.ReferenceIdeal.Step.init x
  | n + 1 => Cert.ReferenceIdeal.Step.step n (trips x n)

theorem trips_keep (x : Input) : ∀ n, Keeps (trips x n) x
  | 0 => ⟨rfl, rfl, rfl⟩
  | n + 1 => ⟨(trips_keep x n).q, (trips_keep x n).k, (trips_keep x n).v⟩

theorem trips_state (x : Input) (n : ℕ) :
    (trips x (n + 1)).main_v83_6 = Cert.ReferenceIdeal.Step.b102 n (trips x n) :=
  Cert.ReferenceIdeal.Step.step_main_v83_6 n (trips x n)

theorem trips_start (x : Input) (i : Cert.ReferenceIdeal.S16x8x128x256.Idx) : (trips x 0).main_v83_6 i = (0 : EReal) := by
  show Cert.ReferenceIdeal.Step.K_main_v7 (F := Ideal) i = (0 : EReal)
  idx_vars i
  pointwise [Cert.ReferenceIdeal.Step.K_main_v7, Cert.ReferenceIdeal.Step.K_main_cst]

/-- A chunk's mixed values stay as its own trip left them. -/
theorem trips_mixed (x : Input) (n b : Fin 16) (i : Fin 128) (h : Fin 8) (e : Fin 256) : ∀ k, n.val < k → k ≤ 16 →
    (trips x k).main_v83_7 (ix5 n b i h e) = Cert.ReferenceIdeal.Step.b81 n.val (trips x n.val) (ix4 b i h e)
  | 0, hk, _ => absurd hk (Nat.not_lt_zero _)
  | k + 1, hk, hl => by
    have es : (trips x (k + 1)).main_v83_7 = Cert.ReferenceIdeal.Step.b110 k (trips x k) :=
      Cert.ReferenceIdeal.Step.step_main_v83_7 k (trips x k)
    rw [es]
    have hp := put_read ⟨k, by omega⟩ (trips x k) n b i h e
    refine hp.trans ?_
    by_cases hn : n = ⟨k, by omega⟩
    · rw [if_pos hn]
      have hv : n.val = k := congrArg Fin.val hn
      rw [hv]
    · rw [if_neg hn]
      have hv : n.val ≠ k := fun hv => hn (Fin.ext hv)
      exact trips_mixed x n b i h e k (by omega) (by omega)

/-! ## The kernel's grid points -/

variable (m : (ℓ : Loc nD τ sig) → Buf (Elt Ideal) ℓ)

/-- The argument. -/
def arg (c : Dev nD) : Input := m ((c.tc : Thread nD τ).loc main_arg0)

theorem lt_points {k : ℕ} (h : k < cfg0.N) : k < 256 := lt_of_lt_of_eq h N_0

/-- The blocks of a grid point are its sequence's chunk. -/
theorem reads (c : Dev nD) (t : Fin cfg0.N) :
    Reads (blocksAt m c t) (arg m c) ⟨t.val / 16, by have := lt_points t.isLt; omega⟩ ⟨t.val % 16, by omega⟩ := by
  have ht := lt_points t.isLt
  have row : ∀ r : Fin 128, (⟨t.val * 128 + r.val, by omega⟩ : Fin 32768)
      = ⟨t.val / 16 * 2048 + (t.val % 16 * 128 + r.val), by omega⟩ := fun r => Fin.ext (by simp only []; omega)
  constructor
  · intro r d
    exact (q_at m c t r d).trans (congrArg (fun z => arg m c (ix2 z _)) (row r))
  · intro r d
    exact (k_at m c t r d).trans (congrArg (fun z => arg m c (ix2 z _)) (row r))
  · intro r d
    exact (v_at m c t r d).trans (congrArg (fun z => arg m c (ix2 z _)) (row r))
  · intro r d
    exact (gate_at m c t r d).trans (congrArg (fun z => arg m c (ix2 z _)) (row r))
  · exact cos_at m c t
  · exact sin_at m c t
  · exact D_at m c t
  · exact Q_at m c t
  · exact K_at m c t
  · exact g_at m c t

/-- The state a grid point starts from. -/
def before (c : Dev nD) : (k : ℕ) → k < cfg0.N → Vec Ideal S8x128x256 .f32
  | 0, _ => k0_pay3 (F := Ideal)
  | k + 1, h => if (k + 1) % 16 = 0 then k0_pay3 (F := Ideal) else (outsAt0 m c k (Nat.lt_of_succ_lt h)).2.2

theorem before_fresh (c : Dev nD) (k : ℕ) (h : k + 1 < cfg0.N) (h0 : (k + 1) % 16 = 0) : before m c (k + 1) h = k0_pay3 (F := Ideal) :=
  if_pos h0

theorem before_carried (c : Dev nD) (k : ℕ) (h : k + 1 < cfg0.N) (h0 : ¬(k + 1) % 16 = 0) :
    before m c (k + 1) h = (outsAt0 m c k (Nat.lt_of_succ_lt h)).2.2 :=
  if_neg h0

theorem point_state (c : Dev nD) (k : ℕ) (h : k < cfg0.N) :
    (outsAt0 m c k h).2.2 = nextState (blocksAt m c ⟨k, h⟩) (before m c k h) := by
  cases k with
  | zero =>
    refine (congrArg (fun z => z.2.2) (outsAt0_zero m c h)).trans ?_
    exact state_A m c ⟨0, h⟩ _ (Nat.zero_mod _) (by simp)
  | succ k =>
    refine (congrArg (fun z => z.2.2) (outsAt0_succ m c k h)).trans ?_
    by_cases h0 : (k + 1) % 16 = 0
    · rw [before_fresh m c k h h0]
      exact state_A m c ⟨k + 1, h⟩ _ h0 (by simp only []; omega)
    · rw [before_carried m c k h h0]
      by_cases h1 : (k + 1) % 16 = 15
      · exact state_C m c ⟨k + 1, h⟩ _ h0 h1
      · exact state_B m c ⟨k + 1, h⟩ _ h0 h1

theorem point_out (c : Dev nD) (k : ℕ) (h : k < cfg0.N) :
    (outsAt0 m c k h).1 = outBlock (blocksAt m c ⟨k, h⟩) (before m c k h) := by
  cases k with
  | zero =>
    refine (congrArg (fun z => z.1) (outsAt0_zero m c h)).trans ?_
    exact out_A m c ⟨0, h⟩ _ (Nat.zero_mod _) (by simp)
  | succ k =>
    refine (congrArg (fun z => z.1) (outsAt0_succ m c k h)).trans ?_
    by_cases h0 : (k + 1) % 16 = 0
    · rw [before_fresh m c k h h0]
      exact out_A m c ⟨k + 1, h⟩ _ h0 (by simp only []; omega)
    · rw [before_carried m c k h h0]
      by_cases h1 : (k + 1) % 16 = 15
      · exact out_C m c ⟨k + 1, h⟩ _ h0 h1
      · exact out_B m c ⟨k + 1, h⟩ _ h0 h1

theorem point_kept (c : Dev nD) (k : ℕ) (h : k < cfg0.N) (h1 : k % 16 = 15) :
    (outsAt0 m c k h).2.1 = k0_pay2 (nextState (blocksAt m c ⟨k, h⟩) (before m c k h)) := by
  cases k with
  | zero => exact absurd h1 (by simp)
  | succ k =>
    have h0 : ¬(k + 1) % 16 = 0 := by omega
    refine (congrArg (fun z => z.2.1) (outsAt0_succ m c k h)).trans ?_
    rw [before_carried m c k h h0]
    exact kept_C m c ⟨k + 1, h⟩ _ h0 h1

theorem start_zero (i : S8x128x256.Idx) : k0_pay3 (F := Ideal) i = (0 : EReal) := by
  idx_vars i
  pointwise [k0_pay3]

/-- Grid point `k` starts from the reference's state before the same trip. -/
theorem before_eq (c : Dev nD) : ∀ (k : ℕ) (hk : k < cfg0.N) (h : Fin 8) (d : Fin 128) (e : Fin 256),
    before m c k hk (ix3 h d e)
      = (trips (arg m c) (k % 16)).main_v83_6 (ix4 ⟨k / 16, by have := lt_points hk; omega⟩ h d e)
  | 0, hk, h, d, e => (start_zero _).trans (trips_start _ _).symm
  | k + 1, hk, h, d, e => by
    by_cases h0 : (k + 1) % 16 = 0
    · rw [before_fresh m c k hk h0, h0]
      exact (start_zero _).trans (trips_start _ _).symm
    · rw [before_carried m c k hk h0, point_state]
      have hk' := Nat.lt_of_succ_lt hk
      have e1 : (k + 1) % 16 = k % 16 + 1 := by omega
      have hb : (⟨(k + 1) / 16, by have := lt_points hk; omega⟩ : Fin 16) = ⟨k / 16, by have := lt_points hk; omega⟩ :=
        Fin.ext (by simp only []; omega)
      rw [hb, e1, trips_state]
      exact next_eq (reads m c ⟨k, hk'⟩) (trips_keep _ _) (fun h d e => before_eq c k hk' h d e) h d e

/-! ## The results -/

/-- The output array is the reference's. -/
theorem out_result (c : Dev nD) : G10 m c = Cert.ReferenceIdeal.Step.R_main_v109 (trips (arg m c) 16) (arg m c) := by
  funext i
  have hi0 : (i 0).val < 32768 := (i 0).isLt
  have hi1 : (i 1).val < 2048 := (i 1).isLt
  have hp : pt10Of i < cfg0.N := lt_of_lt_of_eq (show pt10Of i < 256 by show 1 * ((i 0).val / 128 - 0) + 1 * ((i 1).val / 2048 - 0) < 256; omega) N_0.symm
  have e0 : pt10Of i = (i 0).val / 128 := by show 1 * ((i 0).val / 128 - 0) + 1 * ((i 1).val / 2048 - 0) = _; omega
  unfold G10
  rw [dif_pos hp, ← outsAt0_sweep m c (pt10Of i) hp, point_out]
  have hl : loc10Of i = ix2 (⟨(i 0).val % 128, by omega⟩ : Fin 128) (⟨(i 1).val, hi1⟩ : Fin 2048) := by
    funext a
    match a with
    | ⟨0, _⟩ => rfl
    | ⟨1, _⟩ => exact Fin.ext (Nat.mod_eq_of_lt hi1)
  rw [hl]
  refine (out_eq (reads m c ⟨pt10Of i, hp⟩) (trips_keep _ _) (fun h d e => before_eq m c _ hp h d e)
    (fun i h e => trips_mixed _ _ _ i h e 16 (Fin.isLt _) le_rfl) _ _).trans ?_
  refine congrArg _ (funext fun a => Fin.ext ?_)
  match a with
  | ⟨0, _⟩ => show pt10Of i / 16 * 2048 + (pt10Of i % 16 * 128 + (i 0).val % 128) = (i 0).val; omega
  | ⟨1, _⟩ => rfl

/-- The final states are the reference's. -/
theorem state_result (c : Dev nD) : G11 m c = (trips (arg m c) 16).main_v83_6 := by
  funext i
  have hi0 : (i 0).val < 16 := (i 0).isLt
  have hi1 : (i 1).val < 8 := (i 1).isLt
  have hi2 : (i 2).val < 128 := (i 2).isLt
  have hi3 : (i 3).val < 256 := (i 3).isLt
  have e0 : pt11Of i = 16 * (i 0).val + 15 := by
    show 16 * (1 * ((i 0).val / 1 - 0) + 1 * ((i 1).val / 8 - 0) + 1 * ((i 2).val / 128 - 0) + 1 * ((i 3).val / 256 - 0)) + 15 = _
    omega
  have hp : pt11Of i < cfg0.N := lt_of_lt_of_eq (show pt11Of i < 256 by omega) N_0.symm
  unfold G11
  rw [dif_pos hp, ← outsAt0_sweep m c (pt11Of i) hp, point_kept m c _ hp (by omega)]
  have hl : loc11Of i = ix4 (0 : Fin 1) (⟨(i 1).val, hi1⟩ : Fin 8) (⟨(i 2).val, hi2⟩ : Fin 128) (⟨(i 3).val, hi3⟩ : Fin 256) := by
    funext a
    match a with
    | ⟨0, _⟩ => exact Fin.ext (Nat.mod_one _)
    | ⟨1, _⟩ => exact Fin.ext (Nat.mod_eq_of_lt hi1)
    | ⟨2, _⟩ => exact Fin.ext (Nat.mod_eq_of_lt hi2)
    | ⟨3, _⟩ => exact Fin.ext (Nat.mod_eq_of_lt hi3)
  rw [hl]
  have hc : ∀ (A : Vec Ideal S8x128x256 .f32) (h : Fin 8) (d : Fin 128) (e : Fin 256),
      k0_pay2 A (ix4 0 h d e) = A (ix3 h d e) := by
    intro A h d e
    pointwise [k0_pay2]
  rw [hc]
  refine (next_eq (reads m c ⟨pt11Of i, hp⟩) (trips_keep _ _) (fun h d e => before_eq m c _ hp h d e) _ _ _).trans ?_
  have e1 : pt11Of i % 16 = 15 := by omega
  have e2 : (⟨pt11Of i / 16, by omega⟩ : Fin 16) = ⟨(i 0).val, hi0⟩ := Fin.ext (by simp only []; omega)
  simp only [e1, e2]
  rw [trips_state _ 15]
  refine congrArg _ (funext fun a => ?_)
  match a with
  | ⟨0, _⟩ => rfl
  | ⟨1, _⟩ => rfl
  | ⟨2, _⟩ => rfl
  | ⟨3, _⟩ => rfl

end Cert.Retention
-- ==== Proof.LayerNorm.lean ====
/-
  Layer normalization of one row of 1024 numbers, in the order of operations that both programs use.
-/
module

public import Idealize.ShloMosaic.Lib.Pointwise

@[expose] public section

noncomputable section

namespace Cert.Rows

open Idealize.ShloMosaic
open scoped BigOperators

/-- The mean of a row of 1024 numbers. -/
def mean (z : Fin 1024 → EReal) : EReal := Ideal.div (∑ k, z k) (Ideal.ofBits .f32 0x44800000#32)

/-- A row with its mean taken off, divided by its deviation, scaled by `g` and shifted by `b`. -/
def norm (z g b : Fin 1024 → EReal) (j : Fin 1024) : EReal :=
  (z j - mean z) * Ideal.rsqrt (mean (fun k => (z k - mean z) * (z k - mean z)) + Ideal.ofBits .f32 0x3727C5AC#32) * g j + b j

end Cert.Rows
-- ==== Proof.InProj.Read.lean ====
/-
  The input projection entry by entry: the blocks a grid point reads, and the values its body computes from them.
-/
module

public import proofs.«01_k».proof.Proof.Gen.Kernel2Ideal.Value
public import proofs.«01_k».proof.Proof.LayerNorm
public import Idealize.ShloMosaic.Lib.Pointwise
public import Idealize.ShloMosaic.Lib.Pipeline.ValueKit
public import Idealize.ShloMosaic.Lib.Claim

@[expose] public section

set_option maxRecDepth 16384

noncomputable section

namespace Cert.InProj

open Idealize.ShloMosaic Idealize.SL.Sem Cert.Kernel2Ideal Cert.Kernel2Ideal.Gen
open scoped BigOperators

variable (m : (ℓ : Loc nD τ sig) → Buf (Elt Ideal) ℓ)

theorem window_index : ∀ t : Fin cfg0.N, win0_0.index t = ![t.val / 15, 0] ∧ win0_1.index t = ![0, 0] ∧ win0_2.index t = ![0, 0]
    ∧ win0_3.index t = ![0, t.val % 15] ∧ win0_4.index t = ![t.val / 15, t.val % 15] ∧ win0_5.index t = ![0, t.val / 15 / 2, 0, 0, t.val / 15 % 2]
    ∧ win0_6.index t = ![0, t.val / 15 / 2, 0, 0, t.val / 15 % 2] ∧ win0_7.index t = ![t.val / 15, 0] := by
  decide +kernel

theorem points (t : Fin cfg0.N) : t.val < 480 := lt_of_lt_of_eq t.isLt N_0

theorem lt_points {n : ℕ} (h : n < cfg0.N) : n < 480 := lt_of_lt_of_eq h N_0

/-- The normalized rows of the prompt. -/
def normed (x : Vec Ideal S16x2048x1024 .f32) (g b : Vec Ideal S1024 .f32) (r : Fin 32768) (k : Fin 1024) : EReal :=
  Rows.norm (fun l => x (ix3 ⟨r.val / 2048, by omega⟩ ⟨r.val % 2048, by omega⟩ l)) (fun l => g (ix1 l)) (fun l => b (ix1 l)) k

/-- The projection of the normalized rows. -/
def projected (x : Vec Ideal S16x2048x1024 .f32) (g b : Vec Ideal S1024 .f32) (w : Vec Ideal S2x1024x15360 .f32)
    (r : Fin 32768) (e : Fin 15360) : EReal :=
  ∑ k, normed x g b r k * w (ix3 0 k e)

section Reads

variable (c : Dev nD) (t : Fin cfg0.N)

theorem x_at (r l : Fin 1024) :
    iblk m c 0 t (ix2 r l) = m ((c.tc : Thread nD τ).loc main_arg0)
      (ix3 ⟨(t.val / 15 * 1024 + r.val) / 2048, by have := points t; omega⟩ ⟨(t.val / 15 * 1024 + r.val) % 2048, by omega⟩ l) := by
  have ht := points t
  refine Eq.trans (b := V m c main_v0 (ix2 ⟨t.val / 15 * 1024 + r.val, by omega⟩ l)) ?_ ?_
  · blk_ext [iblk, window_index t]
  · simp only [V, List.flatten_cons, List.flatten_nil, List.append_nil, hostOps0, List.cons_append, List.nil_append]
    entry_read
    pointwise

theorem g_at (k : Fin 1024) : iblk m c 1 t (ix2 0 k) = m ((c.tc : Thread nD τ).loc main_arg1) (ix1 k) := by
  refine Eq.trans (b := V m c main_v4 (ix2 0 k)) ?_ ?_
  · blk_ext [iblk, window_index t]
  · simp only [V, List.flatten_cons, List.flatten_nil, List.append_nil, hostOps0, List.cons_append, List.nil_append]
    entry_read
    pointwise

theorem b_at (k : Fin 1024) : iblk m c 2 t (ix2 0 k) = m ((c.tc : Thread nD τ).loc main_arg2) (ix1 k) := by
  refine Eq.trans (b := V m c main_v5 (ix2 0 k)) ?_ ?_
  · blk_ext [iblk, window_index t]
  · simp only [V, List.flatten_cons, List.flatten_nil, List.append_nil, hostOps0, List.cons_append, List.nil_append]
    entry_read
    pointwise

theorem w_at (k e : Fin 1024) :
    iblk m c 3 t (ix2 k e) = m ((c.tc : Thread nD τ).loc main_arg3) (ix3 0 k ⟨t.val % 15 * 1024 + e.val, by omega⟩) := by
  refine Eq.trans (b := V m c main_v3 (ix2 k ⟨t.val % 15 * 1024 + e.val, by omega⟩)) ?_ ?_
  · blk_ext [iblk, window_index t]
  · simp only [V, List.flatten_cons, List.flatten_nil, List.append_nil, hostOps0, List.cons_append, List.nil_append]
    entry_read
    pointwise

theorem keys_start (i : S2x16x16x64x2048.Idx) : V m c main_v6_1 i = m ((c.tc : Thread nD τ).loc main_arg4) i := by
  simp only [V, List.flatten_cons, List.flatten_nil, List.append_nil, hostOps0, List.cons_append, List.nil_append]
  entry_read
  rfl

theorem vals_start (i : S2x16x16x64x2048.Idx) : V m c main_v6_2 i = m ((c.tc : Thread nD τ).loc main_arg5) i := by
  simp only [V, List.flatten_cons, List.flatten_nil, List.append_nil, hostOps0, List.cons_append, List.nil_append]
  entry_read
  rfl

end Reads

section Payloads

theorem pay1_at (x : Vec Ideal S1024x1024 .f32) (g b : Vec Ideal S1x1024 .f32) (r j : Fin 1024) :
    k0_pay1 x g b (ix2 r j) = Rows.norm (fun k => x (ix2 r k)) (fun k => g (ix2 0 k)) (fun k => b (ix2 0 k)) j := by
  unfold Rows.norm Rows.mean
  pointwise [k0_pay1]

theorem pay2_at (x : Vec Ideal S1024x1024 .f32) (g b : Vec Ideal S1x1024 .f32) (r j : Fin 1024) :
    k0_pay2 x g b (ix2 r j) = k0_pay1 x g b (ix2 r j) := by
  pointwise [k0_pay2]

theorem pay3_at (s w : Vec Ideal S1024x1024 .bf16) (r e : Fin 1024) :
    k0_pay3 s w (ix2 r e) = ∑ k, s (ix2 r k) * w (ix2 k e) := by
  pointwise [k0_pay3]

theorem pay4_at (s w : Vec Ideal S1024x1024 .bf16) (r e : Fin 1024) :
    k0_pay4 s w (ix2 r e) = ∑ k, s (ix2 r k) * w (ix2 k e) := by
  refine Eq.trans ?_ (pay3_at s w r e)
  pointwise [k0_pay4]

theorem pay5_at (s w : Vec Ideal S1024x1024 .bf16) (h : Fin 16) (d : Fin 64) (r : Fin 1024) :
    k0_pay5 s w (ix5 0 0 h d r) = ∑ k, s (ix2 r k) * w (ix2 k ⟨h.val * 64 + d.val, by omega⟩) := by
  refine Eq.trans ?_ (pay3_at s w r _)
  pointwise [k0_pay5]

theorem pay6_at (s w : Vec Ideal S1024x1024 .bf16) (h : Fin 16) (d : Fin 64) (r : Fin 1024) :
    k0_pay6 s w (ix5 0 0 h d r) = ∑ k, s (ix2 r k) * w (ix2 k ⟨h.val * 64 + d.val, by omega⟩) := by
  refine Eq.trans ?_ (pay3_at s w r _)
  pointwise [k0_pay6]

theorem pay7_at (z : Vec Ideal S1x1x16x64x1024 .f32) (h : Fin 16) (d : Fin 64) (r : Fin 1024) :
    k0_pay7 z (ix5 0 0 h d r) = z (ix5 0 0 h d r) := by
  pointwise [k0_pay7]

theorem pay8_at (z : Vec Ideal S1x1x16x64x1024 .f32) (h : Fin 16) (d : Fin 64) (r : Fin 1024) :
    k0_pay8 z (ix5 0 0 h d r) = z (ix5 0 0 h d r) := by
  pointwise [k0_pay8]

theorem pay9_at (z : Vec Ideal S1024x1024 .f32) (r j : Fin 1024) : k0_pay9 z (ix2 r j) = z (ix2 r j) := by
  pointwise [k0_pay9]

end Payloads

end Cert.InProj
-- ==== Proof.InProj.CaseA.lean ====
/-
  A grid point of the first column of the input projection: it normalizes its rows and keeps them.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.InProj

open Idealize.ShloMosaic Idealize.SL.Sem Cert.Kernel2Ideal Cert.Kernel2Ideal.Gen

variable {F : FTy → Type} [FloatOps F]

/-- The block of the projection. -/
theorem proj_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (hc2 : ¬cond0_2 i) (hc3 : ¬cond0_3 i)
    (x0 : Vec F S1024x1024 .f32) (x1 : Vec F S1x1024 .f32) (x2 : Vec F S1x1024 .f32) (x3 : Vec F S1024x1024 .bf16) :
    out0_A_4 c i arg2 harg2 arg3 harg3 arg4 harg4 arg5 harg5 arg8 harg8 arg9 harg9 arg10 harg10 arg11 harg11 arg12 harg12 hc0 hc1 hc2 hc3 x0 x1 x2 x3 = k0_pay4 (k0_pay2 x0 x1 x2) x3 := by
  frame_open
  simp (disch := decide) only [↓ View.readCov_skip, ↓ View.readCov_cons_toLoadRect, ↓ View.readCov_fill]
  frame_out

/-- The normalized rows. -/
theorem rows_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (hc2 : ¬cond0_2 i) (hc3 : ¬cond0_3 i)
    (x0 : Vec F S1024x1024 .f32) (x1 : Vec F S1x1024 .f32) (x2 : Vec F S1x1024 .f32) (x3 : Vec F S1024x1024 .bf16) :
    out0_A_7 c i arg2 harg2 arg3 harg3 arg4 harg4 arg5 harg5 arg8 harg8 arg9 harg9 arg10 harg10 arg11 harg11 arg12 harg12 hc0 hc1 hc2 hc3 x0 x1 x2 x3 = k0_pay1 x0 x1 x2 := by
  frame_open
  simp (disch := decide) only [↓ View.readCov_skip, ↓ View.readCov_cons_toLoadRect, ↓ View.readCov_fill]
  frame_out

/-- The rows kept for the next columns. -/
theorem kept_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : cond0_0 i) (hc1 : ¬cond0_1 i) (hc2 : ¬cond0_2 i) (hc3 : ¬cond0_3 i)
    (x0 : Vec F S1024x1024 .f32) (x1 : Vec F S1x1024 .f32) (x2 : Vec F S1x1024 .f32) (x3 : Vec F S1024x1024 .bf16) :
    sout0_A_0 c i arg2 harg2 arg3 harg3 arg4 harg4 arg5 harg5 arg8 harg8 arg9 harg9 arg10 harg10 arg11 harg11 arg12 harg12 hc0 hc1 hc2 hc3 x0 x1 x2 x3 = k0_pay2 x0 x1 x2 := by
  frame_open
  simp (disch := decide) only [↓ View.readCov_skip, ↓ View.readCov_cons_toLoadRect, ↓ View.readCov_fill]
  frame_out

end Cert.InProj
-- ==== Proof.InProj.CaseB.lean ====
/-
  A grid point of the input projection that writes a block of the projection alone.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.InProj

open Idealize.ShloMosaic Idealize.SL.Sem Cert.Kernel2Ideal Cert.Kernel2Ideal.Gen

variable {F : FTy → Type} [FloatOps F]

/-- The block of the projection. -/
theorem proj_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : ¬cond0_2 i) (hc3 : ¬cond0_3 i)
    (x0 : Vec F S1024x1024 .f32) (x1 : Vec F S1x1024 .f32) (x2 : Vec F S1x1024 .f32) (x3 : Vec F S1024x1024 .bf16) (xs0 : Vec F S1024x1024 .bf16) :
    out0_B_4 c i arg2 harg2 arg3 harg3 arg4 harg4 arg5 harg5 arg8 harg8 arg9 harg9 arg10 harg10 arg11 harg11 arg12 harg12 hc0 hc1 hc2 hc3 x0 x1 x2 x3 xs0 = k0_pay4 xs0 x3 := by
  frame_open
  simp (disch := decide) only [↓ View.readCov_skip, ↓ View.readCov_cons_toLoadRect, ↓ View.readCov_fill]
  frame_out

end Cert.InProj
-- ==== Proof.InProj.CaseC.lean ====
/-
  A grid point of the input projection that also writes the keys.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.InProj

open Idealize.ShloMosaic Idealize.SL.Sem Cert.Kernel2Ideal Cert.Kernel2Ideal.Gen

variable {F : FTy → Type} [FloatOps F]

/-- The block of the projection. -/
theorem proj_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (hc2 : ¬cond0_2 i) (hc3 : ¬cond0_3 i)
    (x0 : Vec F S1024x1024 .f32) (x1 : Vec F S1x1024 .f32) (x2 : Vec F S1x1024 .f32) (x3 : Vec F S1024x1024 .bf16) (xs0 : Vec F S1024x1024 .bf16) :
    out0_C_4 c i arg2 harg2 arg3 harg3 arg4 harg4 arg5 harg5 arg8 harg8 arg9 harg9 arg10 harg10 arg11 harg11 arg12 harg12 hc0 hc1 hc2 hc3 x0 x1 x2 x3 xs0 = k0_pay4 xs0 x3 := by
  frame_open
  simp (disch := decide) only [↓ View.readCov_skip, ↓ View.readCov_cons_toLoadRect, ↓ View.readCov_fill]
  frame_out

/-- The block of the keys. -/
theorem keys_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : cond0_1 i) (hc2 : ¬cond0_2 i) (hc3 : ¬cond0_3 i)
    (x0 : Vec F S1024x1024 .f32) (x1 : Vec F S1x1024 .f32) (x2 : Vec F S1x1024 .f32) (x3 : Vec F S1024x1024 .bf16) (xs0 : Vec F S1024x1024 .bf16) :
    out0_C_5 c i arg2 harg2 arg3 harg3 arg4 harg4 arg5 harg5 arg8 harg8 arg9 harg9 arg10 harg10 arg11 harg11 arg12 harg12 hc0 hc1 hc2 hc3 x0 x1 x2 x3 xs0 = k0_pay5 xs0 x3 := by
  frame_open
  simp (disch := decide) only [↓ View.readCov_skip, ↓ View.readCov_cons_toLoadRect, ↓ View.readCov_fill]
  frame_out

end Cert.InProj
-- ==== Proof.InProj.CaseD.lean ====
/-
  A grid point of the input projection that also writes the values.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.InProj

open Idealize.ShloMosaic Idealize.SL.Sem Cert.Kernel2Ideal Cert.Kernel2Ideal.Gen

variable {F : FTy → Type} [FloatOps F]

/-- The block of the projection. -/
theorem proj_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : cond0_2 i) (hc3 : ¬cond0_3 i)
    (x0 : Vec F S1024x1024 .f32) (x1 : Vec F S1x1024 .f32) (x2 : Vec F S1x1024 .f32) (x3 : Vec F S1024x1024 .bf16) (xs0 : Vec F S1024x1024 .bf16) :
    out0_D_4 c i arg2 harg2 arg3 harg3 arg4 harg4 arg5 harg5 arg8 harg8 arg9 harg9 arg10 harg10 arg11 harg11 arg12 harg12 hc0 hc1 hc2 hc3 x0 x1 x2 x3 xs0 = k0_pay4 xs0 x3 := by
  frame_open
  simp (disch := decide) only [↓ View.readCov_skip, ↓ View.readCov_cons_toLoadRect, ↓ View.readCov_fill]
  frame_out

/-- The block of the values. -/
theorem vals_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : cond0_2 i) (hc3 : ¬cond0_3 i)
    (x0 : Vec F S1024x1024 .f32) (x1 : Vec F S1x1024 .f32) (x2 : Vec F S1x1024 .f32) (x3 : Vec F S1024x1024 .bf16) (xs0 : Vec F S1024x1024 .bf16) :
    out0_D_6 c i arg2 harg2 arg3 harg3 arg4 harg4 arg5 harg5 arg8 harg8 arg9 harg9 arg10 harg10 arg11 harg11 arg12 harg12 hc0 hc1 hc2 hc3 x0 x1 x2 x3 xs0 = k0_pay6 xs0 x3 := by
  frame_open
  simp (disch := decide) only [↓ View.readCov_skip, ↓ View.readCov_cons_toLoadRect, ↓ View.readCov_fill]
  frame_out

end Cert.InProj
-- ==== Proof.InProj.CaseE.lean ====
/-
  A grid point of the last column of the input projection: it stores the kept blocks again.
-/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.InProj

open Idealize.ShloMosaic Idealize.SL.Sem Cert.Kernel2Ideal Cert.Kernel2Ideal.Gen

variable {F : FTy → Type} [FloatOps F]

/-- The block of the projection. -/
theorem proj_E (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : ¬cond0_2 i) (hc3 : cond0_3 i)
    (x0 : Vec F S1024x1024 .f32) (x1 : Vec F S1x1024 .f32) (x2 : Vec F S1x1024 .f32) (x3 : Vec F S1024x1024 .bf16) (xo5 : Vec F S1x1x16x64x1024 .f32) (xo6 : Vec F S1x1x16x64x1024 .f32) (xo7 : Vec F S1024x1024 .f32) (xs0 : Vec F S1024x1024 .bf16) :
    out0_E_4 c i arg2 harg2 arg3 harg3 arg4 harg4 arg5 harg5 arg8 harg8 arg9 harg9 arg10 harg10 arg11 harg11 arg12 harg12 hc0 hc1 hc2 hc3 x0 x1 x2 x3 xo5 xo6 xo7 xs0 = k0_pay4 xs0 x3 := by
  frame_open
  simp (disch := decide) only [↓ View.readCov_skip, ↓ View.readCov_cons_toLoadRect, ↓ View.readCov_fill]
  frame_out

/-- The block of the keys. -/
theorem keys_E (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : ¬cond0_2 i) (hc3 : cond0_3 i)
    (x0 : Vec F S1024x1024 .f32) (x1 : Vec F S1x1024 .f32) (x2 : Vec F S1x1024 .f32) (x3 : Vec F S1024x1024 .bf16) (xo5 : Vec F S1x1x16x64x1024 .f32) (xo6 : Vec F S1x1x16x64x1024 .f32) (xo7 : Vec F S1024x1024 .f32) (xs0 : Vec F S1024x1024 .bf16) :
    out0_E_5 c i arg2 harg2 arg3 harg3 arg4 harg4 arg5 harg5 arg8 harg8 arg9 harg9 arg10 harg10 arg11 harg11 arg12 harg12 hc0 hc1 hc2 hc3 x0 x1 x2 x3 xo5 xo6 xo7 xs0 = k0_pay7 xo5 := by
  frame_open
  simp (disch := decide) only [↓ View.readCov_skip, ↓ View.readCov_cons_toLoadRect, ↓ View.readCov_fill]
  frame_out

/-- The block of the values. -/
theorem vals_E (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : ¬cond0_2 i) (hc3 : cond0_3 i)
    (x0 : Vec F S1024x1024 .f32) (x1 : Vec F S1x1024 .f32) (x2 : Vec F S1x1024 .f32) (x3 : Vec F S1024x1024 .bf16) (xo5 : Vec F S1x1x16x64x1024 .f32) (xo6 : Vec F S1x1x16x64x1024 .f32) (xo7 : Vec F S1024x1024 .f32) (xs0 : Vec F S1024x1024 .bf16) :
    out0_E_6 c i arg2 harg2 arg3 harg3 arg4 harg4 arg5 harg5 arg8 harg8 arg9 harg9 arg10 harg10 arg11 harg11 arg12 harg12 hc0 hc1 hc2 hc3 x0 x1 x2 x3 xo5 xo6 xo7 xs0 = k0_pay8 xo6 := by
  frame_open
  simp (disch := decide) only [↓ View.readCov_skip, ↓ View.readCov_cons_toLoadRect, ↓ View.readCov_fill]
  frame_out

/-- The normalized rows. -/
theorem rows_E (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x1024 .bf16) (harg5 : arg5.IsWhole) (arg8 : Memref sig .tc .vmem S1024x1024 .bf16) (harg8 : arg8.IsWhole) (arg9 : Memref sig .tc .vmem S1x1x16x64x1024 .f32) (harg9 : arg9.IsWhole) (arg10 : Memref sig .tc .vmem S1x1x16x64x1024 .f32) (harg10 : arg10.IsWhole) (arg11 : Memref sig .tc .vmem S1024x1024 .f32) (harg11 : arg11.IsWhole) (arg12 : Memref sig .tc .vmem S1024x1024 .bf16) (harg12 : arg12.IsWhole) (hc0 : ¬cond0_0 i) (hc1 : ¬cond0_1 i) (hc2 : ¬cond0_2 i) (hc3 : cond0_3 i)
    (x0 : Vec F S1024x1024 .f32) (x1 : Vec F S1x1024 .f32) (x2 : Vec F S1x1024 .f32) (x3 : Vec F S1024x1024 .bf16) (xo5 : Vec F S1x1x16x64x1024 .f32) (xo6 : Vec F S1x1x16x64x1024 .f32) (xo7 : Vec F S1024x1024 .f32) (xs0 : Vec F S1024x1024 .bf16) :
    out0_E_7 c i arg2 harg2 arg3 harg3 arg4 harg4 arg5 harg5 arg8 harg8 arg9 harg9 arg10 harg10 arg11 harg11 arg12 harg12 hc0 hc1 hc2 hc3 x0 x1 x2 x3 xo5 xo6 xo7 xs0 = k0_pay9 xo7 := by
  frame_open
  simp (disch := decide) only [↓ View.readCov_skip, ↓ View.readCov_cons_toLoadRect, ↓ View.readCov_fill]
  frame_out

end Cert.InProj
-- ==== Proof.InProj.Fold.lean ====
/-
  What the input projection holds after each grid point: its normalized rows, kept over the columns of a row block;
  the block of the projection; and the keys and the values from their columns on.
-/
module

public import proofs.«01_k».proof.Proof.InProj.Read
public import proofs.«01_k».proof.Proof.InProj.CaseA
public import proofs.«01_k».proof.Proof.InProj.CaseB
public import proofs.«01_k».proof.Proof.InProj.CaseC
public import proofs.«01_k».proof.Proof.InProj.CaseD
public import proofs.«01_k».proof.Proof.InProj.CaseE

@[expose] public section

set_option maxRecDepth 16384

noncomputable section

namespace Cert.InProj

open Idealize.ShloMosaic Idealize.SL.Sem Cert.Kernel2Ideal Cert.Kernel2Ideal.Gen
open scoped BigOperators

variable (m : (ℓ : Loc nD τ sig) → Buf (Elt Ideal) ℓ)

/-- The kernel's normalized rows. -/
abbrev rowsOf (c : Dev nD) : Fin 32768 → Fin 1024 → EReal :=
  normed (m ((c.tc : Thread nD τ).loc main_arg0)) (m ((c.tc : Thread nD τ).loc main_arg1)) (m ((c.tc : Thread nD τ).loc main_arg2))

/-- The kernel's projection. -/
abbrev projOf (c : Dev nD) : Fin 32768 → Fin 15360 → EReal :=
  projected (m ((c.tc : Thread nD τ).loc main_arg0)) (m ((c.tc : Thread nD τ).loc main_arg1)) (m ((c.tc : Thread nD τ).loc main_arg2))
    (m ((c.tc : Thread nD τ).loc main_arg3))

/-- Row `r` of grid point `n`. -/
abbrev row (n : ℕ) (h : n < cfg0.N) (r : Fin 1024) : Fin 32768 := ⟨n / 15 * 1024 + r.val, by have := lt_points h; omega⟩

/-- What the buffers hold after grid point `n`. -/
structure Holds (c : Dev nD) (n : ℕ) (h : n < cfg0.N) : Prop where
  kept : ∀ r k, (outsAt0 m c n h).2.2.2.2 (ix2 r k) = rowsOf m c (row n h r) k
  rows : ∀ r k, (outsAt0 m c n h).2.2.2.1 (ix2 r k) = rowsOf m c (row n h r) k
  proj : ∀ r (e : Fin 1024), (outsAt0 m c n h).1 (ix2 r e) = projOf m c (row n h r) ⟨n % 15 * 1024 + e.val, by omega⟩
  keys : 9 ≤ n % 15 → ∀ (i : Fin 16) (d : Fin 64) r,
    (outsAt0 m c n h).2.1 (ix5 0 0 i d r) = projOf m c (row n h r) ⟨9216 + (i.val * 64 + d.val), by omega⟩
  vals : 10 ≤ n % 15 → ∀ (i : Fin 16) (d : Fin 64) r,
    (outsAt0 m c n h).2.2.1 (ix5 0 0 i d r) = projOf m c (row n h r) ⟨10240 + (i.val * 64 + d.val), by omega⟩

theorem rows_now (c : Dev nD) (t : Fin cfg0.N) (r k : Fin 1024) :
    k0_pay1 (iblk m c 0 t) (iblk m c 1 t) (iblk m c 2 t) (ix2 r k) = rowsOf m c (row t.val t.isLt r) k := by
  rw [pay1_at]
  simp only [x_at, g_at, b_at]
  rfl

/-- A block of the projection from kept rows. -/
theorem dot_now (c : Dev nD) (t : Fin cfg0.N) (s : Vec Ideal S1024x1024 .bf16)
    (hs : ∀ r k, s (ix2 r k) = rowsOf m c (row t.val t.isLt r) k) (r e : Fin 1024) :
    ∑ k, s (ix2 r k) * (show Vec Ideal S1024x1024 .bf16 from iblk m c 3 t) (ix2 k e)
      = projOf m c (row t.val t.isLt r) ⟨t.val % 15 * 1024 + e.val, by omega⟩ := by
  refine Finset.sum_congr rfl fun k _ => ?_
  rw [hs]
  exact congrArg _ (w_at m c t k e)

theorem holds_A (c : Dev nD) (t : Fin cfg0.N) (h0 : t.val % 15 = 0) : Holds m c t.val t.isLt := by
  have e := outsAt0_A m c t h0 (by omega) (by omega) (by omega)
  have hk : ∀ r k, (outsAt0 m c t.val t.isLt).2.2.2.2 (ix2 r k) = rowsOf m c (row t.val t.isLt r) k := by
    intro r k
    rw [e]
    dsimp only
    rw [kept_A, pay2_at]
    exact rows_now m c t r k
  refine ⟨hk, ?_, ?_, fun h => absurd h (by omega), fun h => absurd h (by omega)⟩
  · intro r k
    rw [e]
    dsimp only
    rw [rows_A]
    exact rows_now m c t r k
  · intro r k
    rw [e]
    dsimp only
    rw [proj_A, pay4_at]
    exact dot_now m c t _ (fun r k => (pay2_at _ _ _ r k).trans (rows_now m c t r k)) r k

/-- What the point before left, seen from a point of the same row block. -/
theorem holds_B (c : Dev nD) (n : ℕ) (hn : n + 1 < cfg0.N) (H : Holds m c n (Nat.lt_of_succ_lt hn))
    (h0 : ¬(n + 1) % 15 = 0) (h1 : ¬(n + 1) % 15 = 9) (h2 : ¬(n + 1) % 15 = 10) (h3 : ¬(n + 1) % 15 = 14) : Holds m c (n + 1) hn := by
  have e := outsAt0_B m c ⟨n + 1, hn⟩ h0 h1 h2 h3
  have hr : ∀ r, row n (Nat.lt_of_succ_lt hn) r = row (n + 1) hn r := fun r => Fin.ext (by simp only []; omega)
  simp only [Nat.add_sub_cancel] at e
  refine ⟨?_, ?_, ?_, ?_, ?_⟩
  · intro r k
    refine (congrFun (congrArg (fun z => z.2.2.2.2) e) _).trans ?_
    exact (H.kept r k).trans (by rw [hr])
  · intro r k
    refine (congrFun (congrArg (fun z => z.2.2.2.1) e) _).trans ?_
    exact (H.rows r k).trans (by rw [hr])
  · intro r k
    refine (congrFun (congrArg (fun z => z.1) e) _).trans ?_
    dsimp only
    rw [proj_B, pay4_at]
    exact dot_now m c ⟨n + 1, hn⟩ _ (fun r k => (H.kept r k).trans (by rw [hr])) r k
  · intro h i d r
    refine (congrFun (congrArg (fun z => z.2.1) e) _).trans ?_
    exact (H.keys (by omega) i d r).trans (by rw [hr])
  · intro h i d r
    refine (congrFun (congrArg (fun z => z.2.2.1) e) _).trans ?_
    exact (H.vals (by omega) i d r).trans (by rw [hr])

theorem holds_C (c : Dev nD) (n : ℕ) (hn : n + 1 < cfg0.N) (H : Holds m c n (Nat.lt_of_succ_lt hn))
    (h1 : (n + 1) % 15 = 9) : Holds m c (n + 1) hn := by
  have e := outsAt0_C m c ⟨n + 1, hn⟩ (by simp only []; omega) h1 (by simp only []; omega) (by simp only []; omega)
  have hr : ∀ r, row n (Nat.lt_of_succ_lt hn) r = row (n + 1) hn r := fun r => Fin.ext (by simp only []; omega)
  simp only [Nat.add_sub_cancel] at e
  have hd := dot_now m c ⟨n + 1, hn⟩ _ (fun r k => (H.kept r k).trans (by rw [hr]))
  refine ⟨?_, ?_, ?_, ?_, fun h => absurd h (by omega)⟩
  · intro r k
    refine (congrFun (congrArg (fun z => z.2.2.2.2) e) _).trans ?_
    exact (H.kept r k).trans (by rw [hr])
  · intro r k
    refine (congrFun (congrArg (fun z => z.2.2.2.1) e) _).trans ?_
    exact (H.rows r k).trans (by rw [hr])
  · intro r k
    refine (congrFun (congrArg (fun z => z.1) e) _).trans ?_
    dsimp only
    rw [proj_C, pay4_at]
    exact hd r k
  · intro h i d r
    refine (congrFun (congrArg (fun z => z.2.1) e) _).trans ?_
    dsimp only
    rw [keys_C, pay5_at]
    exact (hd r _).trans (congrArg _ (Fin.ext (by simp only [h1])))

theorem holds_D (c : Dev nD) (n : ℕ) (hn : n + 1 < cfg0.N) (H : Holds m c n (Nat.lt_of_succ_lt hn))
    (h2 : (n + 1) % 15 = 10) : Holds m c (n + 1) hn := by
  have e := outsAt0_D m c ⟨n + 1, hn⟩ (by simp only []; omega) (by simp only []; omega) h2 (by simp only []; omega)
  have hr : ∀ r, row n (Nat.lt_of_succ_lt hn) r = row (n + 1) hn r := fun r => Fin.ext (by simp only []; omega)
  simp only [Nat.add_sub_cancel] at e
  have hd := dot_now m c ⟨n + 1, hn⟩ _ (fun r k => (H.kept r k).trans (by rw [hr]))
  refine ⟨?_, ?_, ?_, ?_, ?_⟩
  · intro r k
    refine (congrFun (congrArg (fun z => z.2.2.2.2) e) _).trans ?_
    exact (H.kept r k).trans (by rw [hr])
  · intro r k
    refine (congrFun (congrArg (fun z => z.2.2.2.1) e) _).trans ?_
    exact (H.rows r k).trans (by rw [hr])
  · intro r k
    refine (congrFun (congrArg (fun z => z.1) e) _).trans ?_
    dsimp only
    rw [proj_D, pay4_at]
    exact hd r k
  · intro h i d r
    refine (congrFun (congrArg (fun z => z.2.1) e) _).trans ?_
    exact (H.keys (by omega) i d r).trans (by rw [hr])
  · intro h i d r
    refine (congrFun (congrArg (fun z => z.2.2.1) e) _).trans ?_
    dsimp only
    rw [vals_D, pay6_at]
    exact (hd r _).trans (congrArg _ (Fin.ext (by simp only [h2])))

theorem holds_E (c : Dev nD) (n : ℕ) (hn : n + 1 < cfg0.N) (H : Holds m c n (Nat.lt_of_succ_lt hn))
    (h3 : (n + 1) % 15 = 14) : Holds m c (n + 1) hn := by
  have e := outsAt0_E m c ⟨n + 1, hn⟩ (by simp only []; omega) (by simp only []; omega) (by simp only []; omega) h3
  have hr : ∀ r, row n (Nat.lt_of_succ_lt hn) r = row (n + 1) hn r := fun r => Fin.ext (by simp only []; omega)
  simp only [Nat.add_sub_cancel] at e
  refine ⟨?_, ?_, ?_, ?_, ?_⟩
  · intro r k
    refine (congrFun (congrArg (fun z => z.2.2.2.2) e) _).trans ?_
    exact (H.kept r k).trans (by rw [hr])
  · intro r k
    refine (congrFun (congrArg (fun z => z.2.2.2.1) e) _).trans ?_
    dsimp only
    rw [rows_E, pay9_at]
    exact (H.rows r k).trans (by rw [hr])
  · intro r k
    refine (congrFun (congrArg (fun z => z.1) e) _).trans ?_
    dsimp only
    rw [proj_E, pay4_at]
    exact dot_now m c ⟨n + 1, hn⟩ _ (fun r k => (H.kept r k).trans (by rw [hr])) r k
  · intro h i d r
    refine (congrFun (congrArg (fun z => z.2.1) e) _).trans ?_
    dsimp only
    rw [keys_E, pay7_at]
    exact (H.keys (by omega) i d r).trans (by rw [hr])
  · intro h i d r
    refine (congrFun (congrArg (fun z => z.2.2.1) e) _).trans ?_
    dsimp only
    rw [vals_E, pay8_at]
    exact (H.vals (by omega) i d r).trans (by rw [hr])

theorem holds (c : Dev nD) : ∀ (n : ℕ) (h : n < cfg0.N), Holds m c n h
  | 0, h => holds_A m c ⟨0, h⟩ (Nat.zero_mod _)
  | n + 1, h => by
    have H := holds c n (Nat.lt_of_succ_lt h)
    by_cases h0 : (n + 1) % 15 = 0
    · exact holds_A m c ⟨n + 1, h⟩ h0
    by_cases h1 : (n + 1) % 15 = 9
    · exact holds_C m c n h H h1
    by_cases h2 : (n + 1) % 15 = 10
    · exact holds_D m c n h H h2
    by_cases h3 : (n + 1) % 15 = 14
    · exact holds_E m c n h H h3
    · exact holds_B m c n h H h0 h1 h2 h3

end Cert.InProj
-- ==== Proof.InProj.Array.lean ====
/-
  The arrays that the input projection writes, entry by entry. Every entry of the projection and of the normalized
  rows is written once. The keys and the values are written in the first layer; the second keeps what it held.
-/
module

public import proofs.«01_k».proof.Proof.InProj.Fold

@[expose] public section

set_option maxRecDepth 16384

noncomputable section

namespace Cert.InProj

open Idealize.ShloMosaic Idealize.SL.Sem Cert.Kernel2Ideal Cert.Kernel2Ideal.Gen Cert.Kernel2Ideal.Value

variable (m : (ℓ : Loc nD τ sig) → Buf (Elt Ideal) ℓ)

theorem disjoint4 (t t' : Fin cfg0.N) (hne : t ≠ t') :
    Disjoint ((cfg0.win 4).blk t).view.set ((cfg0.win 4).blk t').view.set := by
  refine (cfg0.win 4).disjoint_blk fun h => hne (Fin.ext ?_)
  have h' : win0_4.index t = win0_4.index t' := h
  have w := (window_index t).2.2.2.2.1
  have w' := (window_index t').2.2.2.2.1
  have a := congrFun (w.symm.trans (h'.trans w')) 0
  have b := congrFun (w.symm.trans (h'.trans w')) 1
  have a' : t.val / 15 = t'.val / 15 := a
  have b' : t.val % 15 = t'.val % 15 := b
  omega

theorem disjoint5 (t t' : Fin cfg0.N) (ht : t.val % 15 = 14) (ht' : t'.val % 15 = 14) (hne : t ≠ t') :
    Disjoint ((cfg0.win 5).blk t).view.set ((cfg0.win 5).blk t').view.set := by
  refine (cfg0.win 5).disjoint_blk fun h => hne (Fin.ext ?_)
  have h' : win0_5.index t = win0_5.index t' := h
  have w := (window_index t).2.2.2.2.2.1
  have w' := (window_index t').2.2.2.2.2.1
  have a := congrFun (w.symm.trans (h'.trans w')) 1
  have b := congrFun (w.symm.trans (h'.trans w')) 4
  have a' : t.val / 15 / 2 = t'.val / 15 / 2 := a
  have b' : t.val / 15 % 2 = t'.val / 15 % 2 := b
  omega

theorem disjoint6 (t t' : Fin cfg0.N) (ht : t.val % 15 = 14) (ht' : t'.val % 15 = 14) (hne : t ≠ t') :
    Disjoint ((cfg0.win 6).blk t).view.set ((cfg0.win 6).blk t').view.set := by
  refine (cfg0.win 6).disjoint_blk fun h => hne (Fin.ext ?_)
  have h' : win0_6.index t = win0_6.index t' := h
  have w := (window_index t).2.2.2.2.2.2.1
  have w' := (window_index t').2.2.2.2.2.2.1
  have a := congrFun (w.symm.trans (h'.trans w')) 1
  have b := congrFun (w.symm.trans (h'.trans w')) 4
  have a' : t.val / 15 / 2 = t'.val / 15 / 2 := a
  have b' : t.val / 15 % 2 = t'.val / 15 % 2 := b
  omega

theorem disjoint7 (t t' : Fin cfg0.N) (ht : t.val % 15 = 14) (ht' : t'.val % 15 = 14) (hne : t ≠ t') :
    Disjoint ((cfg0.win 7).blk t).view.set ((cfg0.win 7).blk t').view.set := by
  refine (cfg0.win 7).disjoint_blk fun h => hne (Fin.ext ?_)
  have h' : win0_7.index t = win0_7.index t' := h
  have w := (window_index t).2.2.2.2.2.2.2
  have w' := (window_index t').2.2.2.2.2.2.2
  have a := congrFun (w.symm.trans (h'.trans w')) 0
  have a' : t.val / 15 = t'.val / 15 := a
  omega

theorem proj_array (c : Dev nD) (t : Fin cfg0.N) (r e : Fin 1024) :
    (dats m 0 c).arrAt 4 cfg0.N (ix2 (row t.val t.isLt r) ⟨t.val % 15 * 1024 + e.val, by omega⟩)
      = (outsAt0 m c t.val t.isLt).1 (ix2 r e) := by
  have h := congrFun (((dats m 0 c).read_blk_arrAt_eq_flushed 4 (fun t t' _ _ hne => disjoint4 t t' hne) cfg0.N t t.isLt (flush0_4 t)).trans
    (flushed4 m c t)) (ix2 r e)
  refine Eq.trans ?_ (h.trans ?_)
  · symm
    generalize (dats m 0 c).arrAt 4 cfg0.N = A
    blk_ext [window_index t]
  · generalize (outsAt0 m c t.val t.isLt).1 = A
    rfl

theorem rows_array (c : Dev nD) (t : Fin cfg0.N) (ht : t.val % 15 = 14) (r k : Fin 1024) :
    (dats m 0 c).arrAt 7 cfg0.N (ix2 (row t.val t.isLt r) k) = (outsAt0 m c t.val t.isLt).2.2.2.1 (ix2 r k) := by
  have h := congrFun (((dats m 0 c).read_blk_arrAt_eq_flushed 7
    (fun t t' hf hf' hne => disjoint7 t t' ((flush0_7 t).mp hf) ((flush0_7 t').mp hf') hne) cfg0.N t t.isLt ((flush0_7 t).mpr ht)).trans
    (flushed7 m c t)) (ix2 r k)
  refine Eq.trans ?_ (h.trans ?_)
  · symm
    generalize (dats m 0 c).arrAt 7 cfg0.N = A
    blk_ext [window_index t]
  · generalize (outsAt0 m c t.val t.isLt).2.2.2.1 = A
    rfl

/-- The sequence of a row block. -/
abbrev seq (t : Fin cfg0.N) : Fin 16 := ⟨t.val / 15 / 2, by have := points t; omega⟩

/-- The position of a row in its sequence. -/
abbrev pos (t : Fin cfg0.N) (r : Fin 1024) : Fin 2048 := ⟨t.val / 15 % 2 * 1024 + r.val, by omega⟩

theorem keys_array (c : Dev nD) (t : Fin cfg0.N) (ht : t.val % 15 = 14) (i : Fin 16) (d : Fin 64) (r : Fin 1024) :
    (dats m 0 c).arrAt 5 cfg0.N (ix5 0 (seq t) i d (pos t r)) = (outsAt0 m c t.val t.isLt).2.1 (ix5 0 0 i d r) := by
  have h := congrFun (((dats m 0 c).read_blk_arrAt_eq_flushed 5
    (fun t t' hf hf' hne => disjoint5 t t' ((flush0_5 t).mp hf) ((flush0_5 t').mp hf') hne) cfg0.N t t.isLt ((flush0_5 t).mpr ht)).trans
    (flushed5 m c t)) (ix5 0 0 i d r)
  refine Eq.trans ?_ (h.trans ?_)
  · symm
    generalize (dats m 0 c).arrAt 5 cfg0.N = A
    blk_ext [window_index t]
  · generalize (outsAt0 m c t.val t.isLt).2.1 = A
    rfl

theorem vals_array (c : Dev nD) (t : Fin cfg0.N) (ht : t.val % 15 = 14) (i : Fin 16) (d : Fin 64) (r : Fin 1024) :
    (dats m 0 c).arrAt 6 cfg0.N (ix5 0 (seq t) i d (pos t r)) = (outsAt0 m c t.val t.isLt).2.2.1 (ix5 0 0 i d r) := by
  have h := congrFun (((dats m 0 c).read_blk_arrAt_eq_flushed 6
    (fun t t' hf hf' hne => disjoint6 t t' ((flush0_6 t).mp hf) ((flush0_6 t').mp hf') hne) cfg0.N t t.isLt ((flush0_6 t).mpr ht)).trans
    (flushed6 m c t)) (ix5 0 0 i d r)
  refine Eq.trans ?_ (h.trans ?_)
  · symm
    generalize (dats m 0 c).arrAt 6 cfg0.N = A
    blk_ext [window_index t]
  · generalize (outsAt0 m c t.val t.isLt).2.2.1 = A
    rfl

end Cert.InProj
-- ==== Proof.InProj.Ref.lean ====
/-
  The reference of the input projection, entry by entry.
-/
module

public import proofs.«01_k».proof.Proof.Gen.Reference2Ideal.Read
public import proofs.«01_k».proof.Proof.InProj.Read

@[expose] public section

set_option maxRecDepth 16384

noncomputable section

namespace Cert.InProj

open Idealize.ShloMosaic Idealize.SL.Sem Cert.Reference2Ideal Cert.Reference2Ideal.Read
open scoped BigOperators

variable (x0 : (⟨S16x2048x1024, .f32⟩ : BufTy).Contents (Elt Ideal)) (x1 x2 : (⟨S1024, .f32⟩ : BufTy).Contents (Elt Ideal))
  (x3 : (⟨S2x1024x15360, .f32⟩ : BufTy).Contents (Elt Ideal)) (x4 x5 : (⟨S2x16x16x64x2048, .f32⟩ : BufTy).Contents (Elt Ideal))

theorem ref_rows (r : Fin 32768) (j : Fin 1024) : val_main_v24 x0 x1 x2 (ix2 r j) = normed x0 x1 x2 r j := by
  unfold normed Rows.norm Rows.mean
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3]

theorem ref_dot (r : Fin 32768) (e : Fin 15360) : val_main_v27 x0 x1 x2 x3 (ix2 r e) = projected x0 x1 x2 x3 r e := by
  refine Eq.trans (b := ∑ k, val_main_v24 x0 x1 x2 (ix2 r k) * x3 (ix3 0 k e)) ?_ ?_
  · pointwise [val_main_v27, val_main_v26, val_main_v25]
  · simp only [ref_rows]
    rfl

theorem ref_proj (r : Fin 32768) (e : Fin 15360) : val_main_v28 x0 x1 x2 x3 (ix2 r e) = projected x0 x1 x2 x3 r e := by
  refine Eq.trans ?_ (ref_dot x0 x1 x2 x3 r e)
  pointwise [val_main_v28]

theorem ref_keys_new (b h : Fin 16) (d : Fin 64) (p : Fin 2048) :
    val_main_v34 x0 x1 x2 x3 x4 (ix5 0 b h d p)
      = projected x0 x1 x2 x3 ⟨b.val * 2048 + p.val, by omega⟩ ⟨9216 + (h.val * 64 + d.val), by omega⟩ := by
  refine Eq.trans ?_ (ref_dot x0 x1 x2 x3 _ _)
  pointwise [val_main_v34, val_main_v33, val_main_v32, val_main_v31, val_main_v30, val_main_v29]

theorem ref_keys_old (b h : Fin 16) (d : Fin 64) (p : Fin 2048) :
    val_main_v34 x0 x1 x2 x3 x4 (ix5 1 b h d p) = x4 (ix5 1 b h d p) := by
  pointwise [val_main_v34, val_main_v33, val_main_v32, val_main_v31, val_main_v30, val_main_v29]

theorem ref_vals_new (b h : Fin 16) (d : Fin 64) (p : Fin 2048) :
    val_main_v40 x0 x1 x2 x3 x5 (ix5 0 b h d p)
      = projected x0 x1 x2 x3 ⟨b.val * 2048 + p.val, by omega⟩ ⟨10240 + (h.val * 64 + d.val), by omega⟩ := by
  refine Eq.trans ?_ (ref_dot x0 x1 x2 x3 _ _)
  pointwise [val_main_v40, val_main_v39, val_main_v38, val_main_v37, val_main_v36, val_main_v35]

theorem ref_vals_old (b h : Fin 16) (d : Fin 64) (p : Fin 2048) :
    val_main_v40 x0 x1 x2 x3 x5 (ix5 1 b h d p) = x5 (ix5 1 b h d p) := by
  pointwise [val_main_v40, val_main_v39, val_main_v38, val_main_v37, val_main_v36, val_main_v35]

end Cert.InProj
-- ==== Proof.InProj.Result.lean ====
/-
  The input projection's four results are the reference's, entry by entry.
-/
module

public import proofs.«01_k».proof.Proof.InProj.Array
public import proofs.«01_k».proof.Proof.InProj.Ref

@[expose] public section

set_option maxRecDepth 16384

noncomputable section

namespace Cert.InProj

open Idealize.ShloMosaic Idealize.SL.Sem Cert.Kernel2Ideal Cert.Kernel2Ideal.Gen Cert.Kernel2Ideal.Value

variable (m : (ℓ : Loc nD τ sig) → Buf (Elt Ideal) ℓ)

/-- The grid point of a row block and a column block. -/
abbrev point (b : ℕ) (hb : b < 32) (j : ℕ) (hj : j < 15) : Fin cfg0.N :=
  ⟨b * 15 + j, by have h : cfg0.N = 480 := by decide
                  omega⟩

theorem point_block (b : ℕ) (hb : b < 32) (j : ℕ) (hj : j < 15) :
    (point b hb j hj).val / 15 = b ∧ (point b hb j hj).val % 15 = j := by
  show (b * 15 + j) / 15 = b ∧ (b * 15 + j) % 15 = j
  omega

theorem proj_entry (c : Dev nD) (i : Fin 32768) (e : Fin 15360) : (dats m 0 c).arrAt 4 cfg0.N (ix2 i e) = projOf m c i e := by
  obtain ⟨h0, h1⟩ := point_block (i.val / 1024) (by omega) (e.val / 1024) (by omega)
  generalize point (i.val / 1024) _ (e.val / 1024) _ = t at h0 h1
  have a := (proj_array m c t ⟨i.val % 1024, by omega⟩ ⟨e.val % 1024, by omega⟩).trans ((holds m c t.val t.isLt).proj _ _)
  have hi : row t.val t.isLt ⟨i.val % 1024, by omega⟩ = i := Fin.ext (by show t.val / 15 * 1024 + i.val % 1024 = i.val; omega)
  have he : (⟨t.val % 15 * 1024 + e.val % 1024, by omega⟩ : Fin 15360) = e := Fin.ext (by show t.val % 15 * 1024 + e.val % 1024 = e.val; omega)
  dsimp only at a
  rw [hi, he] at a
  exact a

theorem rows_entry (c : Dev nD) (i : Fin 32768) (k : Fin 1024) : (dats m 0 c).arrAt 7 cfg0.N (ix2 i k) = rowsOf m c i k := by
  obtain ⟨h0, h1⟩ := point_block (i.val / 1024) (by omega) 14 (by omega)
  generalize point (i.val / 1024) _ 14 _ = t at h0 h1
  have a := (rows_array m c t h1 ⟨i.val % 1024, by omega⟩ k).trans ((holds m c t.val t.isLt).rows _ _)
  have hi : row t.val t.isLt ⟨i.val % 1024, by omega⟩ = i := Fin.ext (by show t.val / 15 * 1024 + i.val % 1024 = i.val; omega)
  rw [hi] at a
  exact a

/-- A sequence's position lies in one of the two row blocks of that sequence. -/
theorem split (b : Fin 16) (p : Fin 2048) : ∃ (t : Fin cfg0.N) (r : Fin 1024), t.val % 15 = 14 ∧ seq t = b ∧ pos t r = p
    ∧ row t.val t.isLt r = ⟨b.val * 2048 + p.val, by omega⟩ := by
  obtain ⟨h0, h1⟩ := point_block (b.val * 2 + p.val / 1024) (by omega) 14 (by omega)
  generalize point (b.val * 2 + p.val / 1024) _ 14 _ = t at h0 h1
  refine ⟨t, ⟨p.val % 1024, by omega⟩, h1, Fin.ext ?_, Fin.ext ?_, Fin.ext ?_⟩
  · show t.val / 15 / 2 = b.val
    omega
  · show t.val / 15 % 2 * 1024 + p.val % 1024 = p.val
    omega
  · show t.val / 15 * 1024 + p.val % 1024 = b.val * 2048 + p.val
    omega

theorem keys_entry (c : Dev nD) (b i : Fin 16) (d : Fin 64) (p : Fin 2048) :
    (dats m 0 c).arrAt 5 cfg0.N (ix5 0 b i d p) = projOf m c ⟨b.val * 2048 + p.val, by omega⟩ ⟨9216 + (i.val * 64 + d.val), by omega⟩ := by
  obtain ⟨t, r, h, hb, hp, hr⟩ := split b p
  have a := (keys_array m c t h i d r).trans ((holds m c t.val t.isLt).keys (by omega) _ _ _)
  rw [hb, hp, hr] at a
  exact a

theorem vals_entry (c : Dev nD) (b i : Fin 16) (d : Fin 64) (p : Fin 2048) :
    (dats m 0 c).arrAt 6 cfg0.N (ix5 0 b i d p) = projOf m c ⟨b.val * 2048 + p.val, by omega⟩ ⟨10240 + (i.val * 64 + d.val), by omega⟩ := by
  obtain ⟨t, r, h, hb, hp, hr⟩ := split b p
  have a := (vals_array m c t h i d r).trans ((holds m c t.val t.isLt).vals (by omega) _ _ _)
  rw [hb, hp, hr] at a
  exact a

/-- No block of the keys reaches the second layer. -/
theorem keys_away (t : Fin cfg0.N) (b i : Fin 16) (d : Fin 64) (p : Fin 2048) :
    (ix5 1 b i d p : S2x16x16x64x2048.Idx) ∉ ((cfg0.win 5).blk t).view.set := by
  intro h
  have h0 := (((cfg0.win 5).emb_mem_blk_iff t (ix5 1 b i d p)).mp h 0).2
  have hx : win0_5.index t 0 = 0 := congrFun (window_index t).2.2.2.2.2.1 0
  change (1 : ℕ) < win0_5.index t 0 * 1 + 1 at h0
  omega

theorem vals_away (t : Fin cfg0.N) (b i : Fin 16) (d : Fin 64) (p : Fin 2048) :
    (ix5 1 b i d p : S2x16x16x64x2048.Idx) ∉ ((cfg0.win 6).blk t).view.set := by
  intro h
  have h0 := (((cfg0.win 6).emb_mem_blk_iff t (ix5 1 b i d p)).mp h 0).2
  have hx : win0_6.index t 0 = 0 := congrFun (window_index t).2.2.2.2.2.2.1 0
  change (1 : ℕ) < win0_6.index t 0 * 1 + 1 at h0
  omega

theorem keys_kept (c : Dev nD) (b i : Fin 16) (d : Fin 64) (p : Fin 2048) :
    (dats m 0 c).arrAt 5 cfg0.N (ix5 1 b i d p) = m ((c.tc : Thread nD τ).loc main_arg4) (ix5 1 b i d p) :=
  (entry5 m c _ fun t _ => keys_away t b i d p).trans (keys_start m c _)

theorem vals_kept (c : Dev nD) (b i : Fin 16) (d : Fin 64) (p : Fin 2048) :
    (dats m 0 c).arrAt 6 cfg0.N (ix5 1 b i d p) = m ((c.tc : Thread nD τ).loc main_arg5) (ix5 1 b i d p) :=
  (entry6 m c _ fun t _ => vals_away t b i d p).trans (vals_start m c _)

theorem proj_result (c : Dev nD) : (dats m 0 c).arrAt 4 cfg0.N
    = Cert.Reference2Ideal.Read.val_main_v28 (F := Ideal) (m ((c.tc : Thread nD τ).loc main_arg0)) (m ((c.tc : Thread nD τ).loc main_arg1))
      (m ((c.tc : Thread nD τ).loc main_arg2)) (m ((c.tc : Thread nD τ).loc main_arg3)) := by
  funext i
  obtain ⟨r, e, rfl⟩ : ∃ (r : Fin 32768) (e : Fin 15360), i = ix2 r e := ⟨i 0, i 1, by funext a; fin_cases a <;> rfl⟩
  exact (proj_entry m c r e).trans (ref_proj _ _ _ _ r e).symm

theorem rows_result (c : Dev nD) : (dats m 0 c).arrAt 7 cfg0.N
    = Cert.Reference2Ideal.Read.val_main_v24 (F := Ideal) (m ((c.tc : Thread nD τ).loc main_arg0)) (m ((c.tc : Thread nD τ).loc main_arg1))
      (m ((c.tc : Thread nD τ).loc main_arg2)) := by
  funext i
  obtain ⟨r, e, rfl⟩ : ∃ (r : Fin 32768) (e : Fin 1024), i = ix2 r e := ⟨i 0, i 1, by funext a; fin_cases a <;> rfl⟩
  exact (rows_entry m c r e).trans (ref_rows _ _ _ r e).symm

theorem keys_result (c : Dev nD) : (dats m 0 c).arrAt 5 cfg0.N
    = Cert.Reference2Ideal.Read.val_main_v34 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  funext i
  obtain ⟨l, b, h, d, p, rfl⟩ : ∃ (l : Fin 2) (b h : Fin 16) (d : Fin 64) (p : Fin 2048), i = ix5 l b h d p :=
    ⟨i 0, i 1, i 2, i 3, i 4, by funext a; fin_cases a <;> rfl⟩
  fin_cases l
  · exact (keys_entry m c b h d p).trans (ref_keys_new _ _ _ _ _ b h d p).symm
  · exact (keys_kept m c b h d p).trans (ref_keys_old _ _ _ _ _ b h d p).symm

theorem vals_result (c : Dev nD) : (dats m 0 c).arrAt 6 cfg0.N
    = Cert.Reference2Ideal.Read.val_main_v40 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5)) := by
  funext i
  obtain ⟨l, b, h, d, p, rfl⟩ : ∃ (l : Fin 2) (b h : Fin 16) (d : Fin 64) (p : Fin 2048), i = ix5 l b h d p :=
    ⟨i 0, i 1, i 2, i 3, i 4, by funext a; fin_cases a <;> rfl⟩
  fin_cases l
  · exact (vals_entry m c b h d p).trans (ref_vals_new _ _ _ _ _ b h d p).symm
  · exact (vals_kept m c b h d p).trans (ref_vals_old _ _ _ _ _ b h d p).symm

end Cert.InProj
-- ==== Proof.OutStage.Block.lean ====
/-
  One row of the output stage: the three branches projected, gated and summed, projected again, added to
  the scaled input and normalized. The kernel's block and the reference's result are both made of it.
-/
module

public import proofs.«01_k».proof.Proof.Gen.Kernel3Ideal.Value
public import proofs.«01_k».proof.Proof.LayerNorm
public import Idealize.ShloMosaic.Lib.Pointwise

@[expose] public section

set_option maxRecDepth 16384

noncomputable section

namespace Cert.OutStage

open Idealize.ShloMosaic Idealize.SL.Sem Cert.Kernel3Ideal Cert.Kernel3Ideal.Gen
open scoped BigOperators

/-- Lane `k` of a row's gated sum: gates `g1 g2 g3`, branches `a b c`, columns `k` of the projections. -/
def merged (g1 g2 g3 : EReal) (a : Fin 1024 → EReal) (b : Fin 2048 → EReal) (c : Fin 1024 → EReal)
    (u : Fin 1024 → EReal) (v : Fin 2048 → EReal) (w : Fin 1024 → EReal) : EReal :=
  Ideal.logistic g1 * (∑ i, a i * u i) + Ideal.logistic g2 * (∑ i, b i * v i) + Ideal.logistic g3 * (∑ i, c i * w i)

/-- A row before normalization, at lane `j`: the scaled input plus the projected sum. -/
def residual (x : EReal) (p w : Fin 1024 → EReal) : EReal :=
  Ideal.ofBits .f32 0x3FB504F3#32 * x + ∑ k, p k * w k

theorem pay2_at (P0 P1 : Vec Ideal S512x1024 .bf16) (P2 : Vec Ideal S1024x1024 .bf16) (P3 : Vec Ideal S512x1024 .bf16)
    (P4 : Vec Ideal S512x2048 .bf16) (P5 : Vec Ideal S2048x1024 .bf16) (P6 P7 : Vec Ideal S512x1024 .bf16)
    (P8 : Vec Ideal S1024x1024 .bf16) (P9 : Vec Ideal S512x1024 .f32) (P10 : Vec Ideal S1024x1024 .bf16) (r : Fin 512) (j : Fin 1024) :
    k0_pay2 P0 P1 P2 P3 P4 P5 P6 P7 P8 P9 P10 (ix2 r j)
      = residual (P9 (ix2 r j))
          (fun k => merged (P0 (ix2 r k)) (P3 (ix2 r k)) (P6 (ix2 r k)) (fun i => P1 (ix2 r i)) (fun i => P4 (ix2 r i)) (fun i => P7 (ix2 r i))
            (fun i => P2 (ix2 i k)) (fun i => P5 (ix2 i k)) (fun i => P8 (ix2 i k)))
          (fun k => P10 (ix2 k j)) := by
  unfold residual merged
  pointwise [k0_pay2]

theorem pay1_at (z : FVec Ideal S512x1024 .f32) (g b : Vec Ideal S1x1024 .f32) (r : Fin 512) (j : Fin 1024) :
    k0_pay1 z g b (ix2 r j)
      = Rows.norm (fun k => z (ix2 r k)) (fun k => g (ix2 0 k)) (fun k => b (ix2 0 k)) j := by
  unfold Rows.norm Rows.mean
  pointwise [k0_pay1]

end Cert.OutStage
-- ==== Proof.OutStage.Array.lean ====
/-
  The array that the output stage writes, entry by entry: each grid point writes 512 rows, and a row depends
  only on the same row of the inputs.
-/
module

public import proofs.«01_k».proof.Proof.OutStage.Block
public import Idealize.ShloMosaic.Lib.Pipeline.ValueKit
public import Idealize.ShloMosaic.Lib.Claim

@[expose] public section

set_option maxRecDepth 16384

noncomputable section

namespace Cert.OutStage

open Idealize.ShloMosaic Idealize.SL.Sem Cert.Kernel3Ideal Cert.Kernel3Ideal.Gen Cert.Kernel3Ideal.Value

variable (m : (ℓ : Loc nD τ sig) → Buf (Elt Ideal) ℓ)

theorem window_index : ∀ t : Fin cfg0.N, win0_0.index t = ![t.val, 0] ∧ win0_1.index t = ![t.val, 0] ∧ win0_2.index t = ![t.val, 0]
    ∧ win0_3.index t = ![t.val, 12] ∧ win0_4.index t = ![t.val, 13] ∧ win0_5.index t = ![t.val, 14] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val, 0] := by
  decide +kernel

theorem points (t : Fin cfg0.N) : t.val < 64 := lt_of_lt_of_eq t.isLt N_0

/-- Row `r` of grid point `t`. -/
abbrev row (t : Fin cfg0.N) (r : Fin 512) : Fin 32768 := ⟨t.val * 512 + r.val, by have := points t; omega⟩

section Reads

variable (c : Dev nD) (t : Fin cfg0.N)

theorem a_at (r : Fin 512) (i : Fin 1024) : iblk m c 0 t (ix2 r i) = m ((c.tc : Thread nD τ).loc main_arg0) (ix2 (row t r) i) := by
  blk_ext [iblk, V, window_index t]

theorem b_at (r : Fin 512) (i : Fin 2048) : iblk m c 1 t (ix2 r i) = m ((c.tc : Thread nD τ).loc main_arg1) (ix2 (row t r) i) := by
  blk_ext [iblk, V, window_index t]

theorem c_at (r : Fin 512) (i : Fin 1024) : iblk m c 2 t (ix2 r i) = m ((c.tc : Thread nD τ).loc main_arg2) (ix2 (row t r) i) := by
  blk_ext [iblk, V, window_index t]

theorem gate1_at (r : Fin 512) (i : Fin 1024) :
    iblk m c 3 t (ix2 r i) = m ((c.tc : Thread nD τ).loc main_arg3) (ix2 (row t r) ⟨12288 + i.val, by omega⟩) := by
  blk_ext [iblk, V, window_index t]

theorem gate2_at (r : Fin 512) (i : Fin 1024) :
    iblk m c 4 t (ix2 r i) = m ((c.tc : Thread nD τ).loc main_arg3) (ix2 (row t r) ⟨13312 + i.val, by omega⟩) := by
  blk_ext [iblk, V, window_index t]

theorem gate3_at (r : Fin 512) (i : Fin 1024) :
    iblk m c 5 t (ix2 r i) = m ((c.tc : Thread nD τ).loc main_arg3) (ix2 (row t r) ⟨14336 + i.val, by omega⟩) := by
  blk_ext [iblk, V, window_index t]

theorem x_at (r : Fin 512) (i : Fin 1024) : iblk m c 6 t (ix2 r i) = m ((c.tc : Thread nD τ).loc main_arg4) (ix2 (row t r) i) := by
  blk_ext [iblk, V, window_index t]

theorem u_at (i k : Fin 1024) : iblk m c 7 t (ix2 i k) = m ((c.tc : Thread nD τ).loc main_arg5) (ix2 i k) := by
  blk_ext [iblk, V, window_index t]

theorem v_at (i : Fin 2048) (k : Fin 1024) : iblk m c 8 t (ix2 i k) = m ((c.tc : Thread nD τ).loc main_arg6) (ix2 i k) := by
  blk_ext [iblk, V, window_index t]

theorem w_at (i k : Fin 1024) : iblk m c 9 t (ix2 i k) = m ((c.tc : Thread nD τ).loc main_arg7) (ix2 i k) := by
  blk_ext [iblk, V, window_index t]

theorem o_at (i k : Fin 1024) : iblk m c 10 t (ix2 i k) = m ((c.tc : Thread nD τ).loc main_arg8) (ix2 i k) := by
  blk_ext [iblk, V, window_index t]

theorem scale_at (k : Fin 1024) : iblk m c 11 t (ix2 0 k) = m ((c.tc : Thread nD τ).loc main_arg9) (ix1 k) := by
  refine Eq.trans (b := V m c main_v0 (ix2 0 k)) ?_ ?_
  · blk_ext [iblk, window_index t]
  · simp only [V, List.flatten_cons, List.flatten_nil, List.append_nil, hostOps0, List.cons_append, List.nil_append]
    entry_read
    pointwise

theorem shift_at (k : Fin 1024) : iblk m c 12 t (ix2 0 k) = m ((c.tc : Thread nD τ).loc main_arg10) (ix1 k) := by
  refine Eq.trans (b := V m c main_v1 (ix2 0 k)) ?_ ?_
  · blk_ext [iblk, window_index t]
  · simp only [V, List.flatten_cons, List.flatten_nil, List.append_nil, hostOps0, List.cons_append, List.nil_append]
    entry_read
    pointwise

end Reads

/-- The rows that grid point `t` leaves in its output block. -/
theorem block_at (x0 : Vec Ideal S512x1024 .bf16) (x1 : Vec Ideal S512x2048 .bf16) (x2 x3 x4 x5 : Vec Ideal S512x1024 .bf16)
    (x6 : Vec Ideal S512x1024 .f32) (x7 : Vec Ideal S1024x1024 .bf16) (x8 : Vec Ideal S2048x1024 .bf16) (x9 x10 : Vec Ideal S1024x1024 .bf16)
    (x11 x12 : Vec Ideal S1x1024 .f32) (r : Fin 512) (j : Fin 1024) :
    out0_13 x0 x1 x2 x3 x4 x5 x6 x7 x8 x9 x10 x11 x12 (ix2 r j)
      = Rows.norm (fun l => residual (x6 (ix2 r l))
          (fun k => merged (x3 (ix2 r k)) (x4 (ix2 r k)) (x5 (ix2 r k)) (fun i => x0 (ix2 r i)) (fun i => x1 (ix2 r i)) (fun i => x2 (ix2 r i))
            (fun i => x7 (ix2 i k)) (fun i => x8 (ix2 i k)) (fun i => x9 (ix2 i k)))
          (fun k => x10 (ix2 k l))) (fun k => x11 (ix2 0 k)) (fun k => x12 (ix2 0 k)) j := by
  refine Eq.trans (b := k0_pay1 (k0_pay2 x3 x0 x7 x4 x1 x8 x5 x2 x9 x6 x10) x11 x12 (ix2 r j)) ?_ ?_
  · unfold out0_13
    frame_out
  · rw [pay1_at]
    simp only [pay2_at]

/-- An entry of the output array. -/
theorem array_at (c : Dev nD) (t : Fin cfg0.N) (r : Fin 512) (j : Fin 1024) :
    (dats m 0 c).arrAt 13 cfg0.N (ix2 (row t r) j)
      = out0_13 (iblk m c 0 t) (iblk m c 1 t) (iblk m c 2 t) (iblk m c 3 t) (iblk m c 4 t) (iblk m c 5 t) (iblk m c 6 t) (iblk m c 7 t)
          (iblk m c 8 t) (iblk m c 9 t) (iblk m c 10 t) (iblk m c 11 t) (iblk m c 12 t) (ix2 r j) := by
  have h := congrFun ((blocks13 m c t (flush0_13 t)).trans (flushed13 m c t)) (ix2 r j)
  refine Eq.trans ?_ (h.trans ?_)
  · symm
    generalize (dats m 0 c).arrAt 13 cfg0.N = A
    blk_ext [window_index t]
  · generalize out0_13 (iblk m c 0 t) (iblk m c 1 t) (iblk m c 2 t) (iblk m c 3 t) (iblk m c 4 t) (iblk m c 5 t) (iblk m c 6 t) (iblk m c 7 t)
          (iblk m c 8 t) (iblk m c 9 t) (iblk m c 10 t) (iblk m c 11 t) (iblk m c 12 t) = A
    rfl

end Cert.OutStage
-- ==== Proof.OutStage.Ref.lean ====
/-
  The reference of the output stage, row by row.
-/
module

public import proofs.«01_k».proof.Proof.Gen.Reference3Ideal.Read
public import proofs.«01_k».proof.Proof.OutStage.Block

@[expose] public section

set_option maxRecDepth 16384

noncomputable section

namespace Cert.OutStage

open Idealize.ShloMosaic Idealize.SL.Sem Cert.Reference3Ideal Cert.Reference3Ideal.Read
open scoped BigOperators

theorem ref_pre (x0 : (⟨S32768x1024, .bf16⟩ : BufTy).Contents (Elt Ideal)) (x1 : (⟨S32768x2048, .bf16⟩ : BufTy).Contents (Elt Ideal))
    (x2 : (⟨S32768x1024, .bf16⟩ : BufTy).Contents (Elt Ideal)) (x3 : (⟨S32768x15360, .bf16⟩ : BufTy).Contents (Elt Ideal))
    (x4 : (⟨S32768x1024, .f32⟩ : BufTy).Contents (Elt Ideal)) (x5 : (⟨S1024x1024, .bf16⟩ : BufTy).Contents (Elt Ideal))
    (x6 : (⟨S2048x1024, .bf16⟩ : BufTy).Contents (Elt Ideal)) (x7 x8 : (⟨S1024x1024, .bf16⟩ : BufTy).Contents (Elt Ideal))
    (r : Fin 32768) (j : Fin 1024) :
    val_main_v40 x0 x1 x2 x3 x4 x5 x6 x7 x8 (ix2 r j)
      = residual (x4 (ix2 r j))
          (fun k => merged (x3 (ix2 r ⟨12288 + k.val, by omega⟩)) (x3 (ix2 r ⟨13312 + k.val, by omega⟩)) (x3 (ix2 r ⟨14336 + k.val, by omega⟩))
            (fun i => x0 (ix2 r i)) (fun i => x1 (ix2 r i)) (fun i => x2 (ix2 r i))
            (fun i => x5 (ix2 i k)) (fun i => x6 (ix2 i k)) (fun i => x7 (ix2 i k)))
          (fun k => x8 (ix2 k j)) := by
  unfold residual merged
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5]
  rfl

theorem ref_norm (x0 : (⟨S32768x1024, .bf16⟩ : BufTy).Contents (Elt Ideal)) (x1 : (⟨S32768x2048, .bf16⟩ : BufTy).Contents (Elt Ideal))
    (x2 : (⟨S32768x1024, .bf16⟩ : BufTy).Contents (Elt Ideal)) (x3 : (⟨S32768x15360, .bf16⟩ : BufTy).Contents (Elt Ideal))
    (x4 : (⟨S32768x1024, .f32⟩ : BufTy).Contents (Elt Ideal)) (x5 : (⟨S1024x1024, .bf16⟩ : BufTy).Contents (Elt Ideal))
    (x6 : (⟨S2048x1024, .bf16⟩ : BufTy).Contents (Elt Ideal)) (x7 x8 : (⟨S1024x1024, .bf16⟩ : BufTy).Contents (Elt Ideal))
    (x9 x10 : (⟨S1024, .f32⟩ : BufTy).Contents (Elt Ideal)) (r : Fin 32768) (j : Fin 1024) :
    val_main_v64 x0 x1 x2 x3 x4 x5 x6 x7 x8 x9 x10 (ix2 r j)
      = Rows.norm (fun k => val_main_v40 x0 x1 x2 x3 x4 x5 x6 x7 x8 (ix2 r k)) (fun k => x9 (ix1 k)) (fun k => x10 (ix1 k)) j := by
  unfold Rows.norm Rows.mean
  pointwise [val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46,
    val_main_v45, val_main_v44, val_main_v43, val_main_v42, val_main_v41, val_main_cst_6, val_main_cst_7, val_main_cst_8, val_main_cst_9, val_main_cst_10]

end Cert.OutStage
-- ==== Proof.OutStage.Result.lean ====
/-
  The output stage's result is the reference's, entry by entry.
-/
module

public import proofs.«01_k».proof.Proof.OutStage.Array
public import proofs.«01_k».proof.Proof.OutStage.Ref

@[expose] public section

set_option maxRecDepth 16384

noncomputable section

namespace Cert.OutStage

open Idealize.ShloMosaic Idealize.SL.Sem Cert.Kernel3Ideal Cert.Kernel3Ideal.Gen Cert.Kernel3Ideal.Value

variable (m : (ℓ : Loc nD τ sig) → Buf (Elt Ideal) ℓ)

/-- The output array is the reference's value at the kernel's arguments. -/
theorem result (c : Dev nD) :
    (dats m 0 c).arrAt 13 cfg0.N
      = Cert.Reference3Ideal.Read.val_main_v64 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  funext i
  have hi0 : (i 0).val < 32768 := (i 0).isLt
  have hi1 : (i 1).val < 1024 := (i 1).isLt
  have hp : (i 0).val / 512 < cfg0.N := lt_of_lt_of_eq (show (i 0).val / 512 < 64 by omega) N_0.symm
  have hi : i = ix2 (row ⟨(i 0).val / 512, hp⟩ ⟨(i 0).val % 512, by omega⟩) (⟨(i 1).val, hi1⟩ : Fin 1024) := by
    funext a
    match a with
    | ⟨0, _⟩ => exact Fin.ext (show (i 0).val = (i 0).val / 512 * 512 + (i 0).val % 512 by omega)
    | ⟨1, _⟩ => rfl
  rw [hi, ref_norm, array_at, block_at]
  simp only [ref_pre, a_at, b_at, c_at, gate1_at, gate2_at, gate3_at, x_at, u_at, v_at, w_at, o_at, scale_at, shift_at]

end Cert.OutStage
-- ==== Proof.lean ====
/-
  The proof of `Cert.Claim`, for the retention, the input projection and the output stage: the kernel and its plain
  reference terminate with every semaphore at zero, the idealized kernel is the kernel, and over the extended reals both
  leave the same results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Retention.Fold
public import proofs.«01_k».proof.Proof.InProj.Result
public import proofs.«01_k».proof.Proof.OutStage.Result
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Both sides of the retention's value claim leave the reference's results. -/
theorem retention_value : Cert.algebraic_KernelIdeal_ReferenceIdeal := by
  intro m _ m' _ _ hm
  refine ⟨fun c => Cert.ReferenceIdeal.Step.R_main_v109 (Cert.Retention.trips (Cert.Retention.arg m c) 16) (Cert.Retention.arg m c),
    fun c => (Cert.Retention.trips (Cert.Retention.arg m c) 16).main_v83_6, ?_, ?_⟩
  · refine (θ_run Cert.KernelIdeal.defs _ _).mono (fun r h c => ?_) (Cert.KernelIdeal.Value.run (F := Ideal) m _)
    exact ⟨(h c).1.trans (Cert.Retention.out_result m c), (h c).2.1.trans (Cert.Retention.state_result m c), (h c).2.2⟩
  · refine (θ_run Cert.ReferenceIdeal.defs _ _).mono (fun r h c => ?_)
      (Cert.ReferenceIdeal.StepRun.run_iter (F := Ideal) m' _
        (fun c => Cert.Retention.trips (m' ((c.tc : Thread Cert.ReferenceIdeal.nD Cert.ReferenceIdeal.τ).loc Cert.ReferenceIdeal.main_arg0)))
        (fun c => rfl) (fun c n => rfl))
    have e : m' ((c.tc : Thread Cert.ReferenceIdeal.nD Cert.ReferenceIdeal.τ).loc Cert.ReferenceIdeal.main_arg0) = Cert.Retention.arg m c := hm c
    have hc := h c
    rw [e] at hc
    exact ⟨hc.1, hc.2.1, hc.2.2.trans e.symm⟩

/-- Both sides of the input projection's value claim leave the reference's results. -/
theorem inproj_value : Cert.algebraic_Kernel2Ideal_Reference2Ideal := by
  intro m _ m' _ _ hm
  refine ⟨fun c => Cert.Reference2Ideal.Read.val_main_v28 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3)),
    fun c => Cert.Reference2Ideal.Read.val_main_v34 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4)),
    fun c => Cert.Reference2Ideal.Read.val_main_v40 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg5)),
    fun c => Cert.Reference2Ideal.Read.val_main_v24 (F := Ideal) (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)), ?_, ?_⟩
  · refine (θ_run Cert.Kernel2Ideal.defs _ _).mono (fun r h c => ?_) (Cert.Kernel2Ideal.Value.run_blocks (F := Ideal) m _)
    obtain ⟨h0, h1, h2, h3, h4⟩ := h c
    exact ⟨h0.trans (Cert.InProj.proj_result m c), h1.trans (Cert.InProj.keys_result m c), h2.trans (Cert.InProj.vals_result m c),
      h3.trans (Cert.InProj.rows_result m c), h4⟩
  · refine (θ_run Cert.Reference2Ideal.defs _ _).mono (fun r h c => ?_) (Cert.Reference2Ideal.Value.run (F := Ideal) m' _)
    obtain ⟨h0, h1, h2, h3, h4⟩ := h c
    obtain ⟨e0, e1, e2, e3, e4, e5⟩ := hm c
    refine ⟨(h0.trans (Cert.Reference2Ideal.Read.val_main_v28_eq _ _ _ _)).trans ?_,
      (h1.trans (Cert.Reference2Ideal.Read.val_main_v34_eq _ _ _ _ _)).trans ?_,
      (h2.trans (Cert.Reference2Ideal.Read.val_main_v40_eq _ _ _ _ _)).trans ?_,
      (h3.trans (Cert.Reference2Ideal.Read.val_main_v24_eq _ _ _)).trans ?_, h4⟩
    · rw [e0, e1, e2, e3]
    · rw [e0, e1, e2, e3, e4]
    · rw [e0, e1, e2, e3, e5]
    · rw [e0, e1, e2]

/-- Both sides of the output stage's value claim leave the reference's result. -/
theorem out_value : Cert.algebraic_Kernel3Ideal_Reference3Ideal := by
  intro m _ m' _ _ hm
  refine ⟨fun c => Cert.Reference3Ideal.Read.val_main_v64 (F := Ideal) (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
        (m ((c.tc : Thread Cert.Kernel3Ideal.nD Cert.Kernel3Ideal.τ).loc Cert.Kernel3Ideal.main_arg10)), ?_, ?_⟩
  · refine (θ_run Cert.Kernel3Ideal.defs _ _).mono (fun r h c => ?_) (Cert.Kernel3Ideal.Value.run_blocks (F := Ideal) m _)
    exact ⟨(h c).1.trans (Cert.OutStage.result m c), (h c).2⟩
  · refine (θ_run Cert.Reference3Ideal.defs _ _).mono (fun r h c => ?_) (Cert.Reference3Ideal.Value.run (F := Ideal) m' _)
    obtain ⟨e0, e1, e2, e3, e4, e5, e6, e7, e8, e9, e10⟩ := hm c
    refine ⟨((h c).1.trans (Cert.Reference3Ideal.Read.val_main_v64_eq m' c)).trans ?_, (h c).2⟩
    rw [e0, e1, e2, e3, e4, e5, e6, e7, e8, e9, e10]

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ),
  fun m ρ _ => Cert.Kernel3.Gen.frame m ρ,
  fun m ρ _ => Cert.Kernel3Ideal.Gen.frame m ρ,
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ),
  trivial, retention_value, trivial, inproj_value, trivial, out_value⟩

end Cert.Proof

end
